-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![256, 512]⟩ ⟨2, ![512, 512]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S512x512 : Shape := ⟨2, ![512, 512]⟩
abbrev S4x128x512 : Shape := ⟨3, ![4, 128, 512]⟩
abbrev S4 : Shape := ⟨1, ![4]⟩
abbrev S_ : Shape := ⟨0, ![]⟩
abbrev S128x256 : Shape := ⟨2, ![128, 256]⟩
abbrev S128x512 : Shape := ⟨2, ![128, 512]⟩
abbrev S1x128x512 : Shape := ⟨3, ![1, 128, 512]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S512x512, .f32⟩
  | .local _ .vmem, ⟨0, _⟩ => ⟨S512x256, .f32⟩
  | .local _ .vmem, ⟨1, _⟩ => ⟨S256x512, .f32⟩
  | .local _ .vmem, ⟨2, _⟩ => ⟨S512x512, .f32⟩
  | .local _ .vmem, ⟨3, _⟩ => ⟨S4x128x512, .bf16⟩
  | .local _ .vmem, ⟨4, _⟩ => ⟨S4x128x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_20 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_19 : BitVec 32 := 2#32
  let v24 : BitVec 32 := Scalar.muli v2 c2_i32_19
  let v25 : BitVec 32 := Scalar.addi c0_i32_20 v24
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_21 : BitVec 32 := 1#32
  let v26 : BitVec 32 := Scalar.muli v6 c1_i32_21
  let v27 : BitVec 32 := Scalar.addi v25 v26
  v27.toNat
def k0_dev3 (d0 : Dev nD) : Nat :=
  let c0_i32_37 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_36 : BitVec 32 := 2#32
  let v45 : BitVec 32 := Scalar.muli v2 c2_i32_36
  let v46 : BitVec 32 := Scalar.addi c0_i32_37 v45
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_38 : BitVec 32 := 1#32
  let v47 : BitVec 32 := Scalar.muli v6 c1_i32_38
  let v48 : BitVec 32 := Scalar.addi v46 v47
  v48.toNat
def k0_dev4 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v66 : BitVec 32 := Scalar.muli v2 c2_i32_53
  let v67 : BitVec 32 := Scalar.addi c0_i32_54 v66
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v68 : BitVec 32 := Scalar.muli v6 c1_i32_55
  let v69 : BitVec 32 := Scalar.addi v67 v68
  v69.toNat
def k0_dev5 (d0 : Dev nD) : Nat :=
  let c0_i32_70 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_69 : BitVec 32 := 2#32
  let v87 : BitVec 32 := Scalar.muli v2 c2_i32_69
  let v88 : BitVec 32 := Scalar.addi c0_i32_70 v87
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_71 : BitVec 32 := 1#32
  let v89 : BitVec 32 := Scalar.muli v6 c1_i32_71
  let v90 : BitVec 32 := Scalar.addi v88 v89
  v90.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Chunks.lean ====
/-
# The chunks of the exchange

Each device of a mesh row multiplies its 512 × 256 block of `A` with its 256 × 512 block of `B` in four blocks of 128
rows. It keeps every product in its result buffer, rounds a copy of it to bfloat16 into chunk `k` of its send buffer, and
sends this chunk to chunk `k` of the receive buffer of the other device of the row, its peer. This module names the
chunks as parts of the buffers, says what each of them holds, and shows that the four parts make up the buffer.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ViewIndex
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's ghost state is kept beside the pipeline's; every cell has at most one duty a round, so duties need no
    names. -/
abbrev UB : Type := URounds (GSem nD τ sig) Unit
abbrev UU : Type := UR sig nD τ × UB

local notation "𝕄" => MT nD τ sig Unit (Elt F) ℕ UU ℕ

/-! ## The peer -/

theorem peer_lt (c : Dev nD) : (2 * (c.val / 2) + 1) - c.val % 2 < nD := by revert c; decide

/-- The other device of the mesh row: devices `2r` and `2r + 1` are each other's peers. -/
def peer (c : Dev nD) : Dev nD := ⟨(2 * (c.val / 2) + 1) - c.val % 2, peer_lt c⟩

theorem peer_peer (c : Dev nD) : peer (peer c) = c := by revert c; decide

def swap : Dev nD ≃ Dev nD := ⟨peer, peer, peer_peer, peer_peer⟩

/-- Every device number the kernel computes is its peer's. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

/-! ## Buffers and chunks -/

abbrev aM : Memref sig .tc .vmem S512x256 .f32 := Memref.whole cc0_stg0_0
abbrev bM : Memref sig .tc .vmem S256x512 .f32 := Memref.whole cc0_stg1_0
abbrev oM : Memref sig .tc .vmem S512x512 .f32 := Memref.whole cc0_stg2_0
abbrev sM : Memref sig .tc .vmem S4x128x512 .bf16 := Memref.whole cc0_scratch0
abbrev rM : Memref sig .tc .vmem S4x128x512 .bf16 := Memref.whole cc0_scratch1

theorem chunk_inb (k : Fin 4) : ∀ a, (![k.val, 0, 0] : Fin 3 → ℕ) a + S1x128x512.size a ≤ S4x128x512.size a := by
  revert k; decide
theorem rows_inb (k : Fin 4) : ∀ a, (![128 * k.val, 0] : Fin 2 → ℕ) a + S128x512.size a ≤ S512x512.size a := by
  revert k; decide
theorem aRows_inb (k : Fin 4) : ∀ a, (![128 * k.val, 0] : Fin 2 → ℕ) a + S128x256.size a ≤ S512x256.size a := by
  revert k; decide

/-- Chunk `k` of the send and of the receive buffer; -/
abbrev chunkR (k : Fin 4) : Rect S4x128x512 := Rect.unit (s := S4x128x512) ![k.val, 0, 0] S1x128x512.size (chunk_inb k)
/-- rows `128 k` to `128 k + 127` of the result buffer; -/
abbrev rowsR (k : Fin 4) : Rect S512x512 := Rect.unit (s := S512x512) ![128 * k.val, 0] S128x512.size (rows_inb k)
/-- the same rows of the block of `A`. -/
abbrev aRowsR (k : Fin 4) : Rect S512x256 := Rect.unit (s := S512x256) ![128 * k.val, 0] S128x256.size (aRows_inb k)

abbrev sV (k : Fin 4) := sM.access (chunkR k)
abbrev rV (k : Fin 4) := rM.access (chunkR k)
abbrev oV (k : Fin 4) := oM.access (rowsR k)
abbrev aV (k : Fin 4) := aM.access (aRowsR k)

/-- The chunks as the copies name them: the same elements, without the leading axis of length one. -/
abbrev sC (k : Fin 4) : Memref sig .tc .vmem S128x512 .bf16 :=
  (sM.slice (chunkR k) (fun _ => rfl)).squeeze S128x512 squeezes_S1x128x512_S128x512
abbrev rC (k : Fin 4) : Memref sig .tc .vmem S128x512 .bf16 :=
  (rM.slice (chunkR k) (fun _ => rfl)).squeeze S128x512 squeezes_S1x128x512_S128x512

theorem sC_set (k : Fin 4) : (sC k).view.set = (sV k).set := View.set_reshape _ _
theorem rC_set (k : Fin 4) : (rC k).view.set = (rV k).set := View.set_reshape _ _

/-- A copy of a chunk lands as it left: what chunk `k` of the receive buffer reads afterwards is what chunk `k` of the
    send buffer read. -/
theorem landing (k : Fin 4) (fd : rM.view.ref.ty.Contents (Elt F)) (fs : sM.view.ref.ty.Contents (Elt F)) :
    (rV k).read (Elt F) ((rC k).view.write (Elt F) fd ((sC k).view.read (Elt F) fs) Finset.univ) = (sV k).read (Elt F) fs := by
  have h := squeezes_S1x128x512_S128x512.numel_eq
  funext y
  obtain ⟨x, rfl⟩ : ∃ x, y = Shape.reshapeEquiv h x := ⟨(Shape.reshapeEquiv h).symm y, (Equiv.apply_symm_apply _ _).symm⟩
  exact View.read_write_reshape (rV k) h _ _ x

/-! ## What the chunks hold -/

variable (m : (ℓ : Loc nD τ sig) → Buf (Elt F) ℓ)

/-- Device `c`'s blocks of `A` and `B`, as staged. -/
def astg (c : Dev nD) : (cc0_stg0_0 : Ref sig .tc).ty.Contents (Elt F) :=
  (win0_0.blk (0 : Fin 1)).view.read (Elt F) (m ((c : Thread nD τ).loc main_arg0))
def bstg (c : Dev nD) : (cc0_stg1_0 : Ref sig .tc).ty.Contents (Elt F) :=
  (win0_1.blk (0 : Fin 1)).view.read (Elt F) (m ((c : Thread nD τ).loc main_arg1))

/-- Rows `k` of device `c`'s block of `A`. -/
def aRows (c : Dev nD) (k : Fin 4) : S128x256.Idx → Elt F .f32 := (aV k).read (Elt F) (astg m c)
/-- Their product with device `c`'s block of `B`; -/
def part (c : Dev nD) (k : Fin 4) : S128x512.Idx → Elt F .f32 := k0_pay4 (k0_pay1 (bstg m c)) (aRows m c k)
/-- the rounded copy of it that device `c` sends; -/
def sent (c : Dev nD) (k : Fin 4) : S1x128x512.Idx → Elt F .bf16 := k0_pay5 (k0_pay1 (bstg m c)) (aRows m c k)
/-- and rows `k` of the result: the device's own product plus what it receives. -/
def total (c : Dev nD) (k : Fin 4) : S128x512.Idx → Elt F .f32 := k0_pay10 (part m c k) (sent m (peer c) k)

/-- Device `c`'s whole result: row `128 k + i` is row `i` of `total k`. -/
def outAt (c : Dev nD) : (cc0_stg2_0 : Ref sig .tc).ty.Contents (Elt F) := fun i : S512x512.Idx =>
  total m c ⟨(i 0).val / 128, by have : (i 0).val < 512 := (i 0).isLt; omega⟩
    ((fun a => match a with
      | ⟨0, _⟩ => ⟨(i 0).val % 128, Nat.mod_lt _ (by decide)⟩
      | ⟨1, _⟩ => ⟨(i 1).val, (i 1).isLt⟩) : S128x512.Idx)

/-- `outAt` on the elements of rows `k`. -/
theorem outAt_emb (c : Dev nD) (k : Fin 4) (x : S128x512.Idx) : outAt m c ((oV k).emb x) = total m c k x := by
  have hx : (x 0).val < 128 := (x 0).isLt
  have e0 : (((oV k).emb x : S512x512.Idx) 0).val = 128 * k.val + (x 0).val := by
    show 128 * k.val + 1 * (x 0).val = _; omega
  have e1 : (((oV k).emb x : S512x512.Idx) 1).val = (x 1).val := by
    show 0 + 1 * (x 1).val = _; omega
  have ek : ∀ h, (⟨(((oV k).emb x : S512x512.Idx) 0).val / 128, h⟩ : Fin 4) = k := fun h => Fin.ext (by
    rw [Fin.val_mk, e0]; omega)
  unfold outAt
  dsimp only
  rw [ek]
  congr 1
  funext a
  match a with
  | ⟨0, _⟩ => exact Fin.ext ((congrArg (· % 128) e0).trans (by show (128 * k.val + (x 0).val) % 128 = (x 0).val; omega))
  | ⟨1, _⟩ => exact Fin.ext e1

/-! ## A buffer is its four chunks -/

theorem chunk_disj : ∀ t ∈ (Finset.univ : Finset (Fin 4)), ∀ u ∈ (Finset.univ : Finset (Fin 4)), t ≠ u →
    Disjoint (chunkR t).set (chunkR u).set := fun t _ u _ h =>
  Rect.unit_disjoint 0 (by
    have : t.val ≠ u.val := fun e => h (Fin.ext e)
    show t.val + 1 ≤ u.val ∨ u.val + 1 ≤ t.val; omega)

theorem rows_disj : ∀ t ∈ (Finset.univ : Finset (Fin 4)), ∀ u ∈ (Finset.univ : Finset (Fin 4)), t ≠ u →
    Disjoint (rowsR t).set (rowsR u).set := fun t _ u _ h =>
  Rect.unit_disjoint 0 (by
    have : t.val ≠ u.val := fun e => h (Fin.ext e)
    show 128 * t.val + 128 ≤ 128 * u.val ∨ 128 * u.val + 128 ≤ 128 * t.val; omega)

theorem chunk_cover : (Finset.univ : Finset (Fin 4)).biUnion (fun k => (chunkR k).set) = Finset.univ := by
  refine Finset.eq_univ_iff_forall.mpr fun i => Finset.mem_biUnion.mpr ?_
  have h0 : (i 0).val < 4 := (i 0).isLt
  have h1 : (i 1).val < 128 := (i 1).isLt
  have h2 : (i 2).val < 512 := (i 2).isLt
  refine ⟨⟨(i 0).val, h0⟩, Finset.mem_univ _, Rect.mem_set_unit.mpr fun a => ?_⟩
  match a with
  | ⟨0, _⟩ => exact ⟨le_rfl, Nat.lt_succ_self _⟩
  | ⟨1, _⟩ => exact ⟨Nat.zero_le _, by show (i 1).val < 0 + 128; omega⟩
  | ⟨2, _⟩ => exact ⟨Nat.zero_le _, by show (i 2).val < 0 + 512; omega⟩

theorem rows_cover : (Finset.univ : Finset (Fin 4)).biUnion (fun k => (rowsR k).set) = Finset.univ := by
  refine Finset.eq_univ_iff_forall.mpr fun i => Finset.mem_biUnion.mpr ?_
  have h0 : (i 0).val < 512 := (i 0).isLt
  have h1 : (i 1).val < 512 := (i 1).isLt
  refine ⟨⟨(i 0).val / 128, by omega⟩, Finset.mem_univ _, Rect.mem_set_unit.mpr fun a => ?_⟩
  match a with
  | ⟨0, _⟩ => exact ⟨by show 128 * ((i 0).val / 128) ≤ (i 0).val; omega, by show (i 0).val < 128 * ((i 0).val / 128) + 128; omega⟩
  | ⟨1, _⟩ => exact ⟨Nat.zero_le _, by show (i 1).val < 0 + 512; omega⟩

/-- Chunk `k` of device `c`'s send buffer, of its receive buffer, and rows `k` of its result buffer. -/
def sPts (c : Dev nD) (k : Fin 4) (f : Buf (Elt F) ((c : Thread nD τ).loc cc0_scratch0)) : sProp 𝕄 :=
  ((c : Thread nD τ).loc cc0_scratch0) ↦[(sV k).set]{fullShare} f
def rPts (c : Dev nD) (k : Fin 4) (f : Buf (Elt F) ((c : Thread nD τ).loc cc0_scratch1)) : sProp 𝕄 :=
  ((c : Thread nD τ).loc cc0_scratch1) ↦[(rV k).set]{fullShare} f
def oPts (c : Dev nD) (k : Fin 4) (f : Buf (Elt F) ((c : Thread nD τ).loc cc0_stg2_0)) : sProp 𝕄 :=
  ((c : Thread nD τ).loc cc0_stg2_0) ↦[(oV k).set]{fullShare} f

omit [FloatOps F] in
instance sPts_storable (c : Dev nD) (k : Fin 4) (f) : BI.Storable (upEmb : UEmb _ 𝕄) (sPts (F := F) c k f) := by
  unfold sPts; infer_instance
omit [FloatOps F] in
instance rPts_storable (c : Dev nD) (k : Fin 4) (f) : BI.Storable (upEmb : UEmb _ 𝕄) (rPts (F := F) c k f) := by
  unfold rPts; infer_instance

omit [FloatOps F] in
/-- Four conjuncts, listed. -/
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem sV_set (k : Fin 4) : (sV k).set = (chunkR k).set := View.set_slice_whole _ _
omit [FloatOps F] in
theorem rV_set (k : Fin 4) : (rV k).set = (chunkR k).set := View.set_slice_whole _ _
omit [FloatOps F] in
theorem oV_set (k : Fin 4) : (oV k).set = (rowsR k).set := View.set_slice_whole _ _

omit [FloatOps F] in
theorem s_split (c : Dev nD) (f : Buf (Elt F) ((c : Thread nD τ).loc cc0_scratch0)) :
    (((c : Thread nD τ).loc cc0_scratch0) ↦{fullShare} f : sProp 𝕄) = iprop(sPts c 0 f ∗ sPts c 1 f ∗ sPts c 2 f ∗ sPts c 3 f) := by
  rw [Ring.pointsTo_blocks (fun k => (chunkR k).set) (fun t u h => chunk_disj t (Finset.mem_univ _) u (Finset.mem_univ _) h) chunk_cover f, four]
  unfold sPts; simp only [sV_set]

omit [FloatOps F] in
theorem r_split (c : Dev nD) (f : Buf (Elt F) ((c : Thread nD τ).loc cc0_scratch1)) :
    (((c : Thread nD τ).loc cc0_scratch1) ↦{fullShare} f : sProp 𝕄) = iprop(rPts c 0 f ∗ rPts c 1 f ∗ rPts c 2 f ∗ rPts c 3 f) := by
  rw [Ring.pointsTo_blocks (fun k => (chunkR k).set) (fun t u h => chunk_disj t (Finset.mem_univ _) u (Finset.mem_univ _) h) chunk_cover f, four]
  unfold rPts; simp only [rV_set]

omit [FloatOps F] in
theorem o_split (c : Dev nD) (f : Buf (Elt F) ((c : Thread nD τ).loc cc0_stg2_0)) :
    (((c : Thread nD τ).loc cc0_stg2_0) ↦{fullShare} f : sProp 𝕄) = iprop(oPts c 0 f ∗ oPts c 1 f ∗ oPts c 2 f ∗ oPts c 3 f) := by
  rw [Ring.pointsTo_blocks (fun k => (rowsR k).set) (fun t u h => rows_disj t (Finset.mem_univ _) u (Finset.mem_univ _) h) rows_cover f, four]
  unfold oPts; simp only [oV_set]

omit [FloatOps F] in
/-- The four chunks of the send buffer, at whatever contents, are the buffer at some contents; -/
theorem s_join (c : Dev nD) (f0 f1 f2 f3 : Buf (Elt F) ((c : Thread nD τ).loc cc0_scratch0)) :
    iprop(sPts c 0 f0 ∗ sPts c 1 f1 ∗ sPts c 2 f2 ∗ sPts c 3 f3)
      ⊢ iprop(∃ g, (((c : Thread nD τ).loc cc0_scratch0) ↦{fullShare} g : sProp 𝕄)) := by
  refine BIBase.Entails.trans ?_ (Ring.pointsTo_blocks_join_exists (fun k => (chunkR k).set) (fun t u h => chunk_disj t (Finset.mem_univ _) u (Finset.mem_univ _) h) chunk_cover f0)
  rw [four]
  unfold sPts; simp only [sV_set]
  iintro ⟨H0, H1, H2, H3⟩
  isplitl [H0]; · iexists f0; iexact H0
  isplitl [H1]; · iexists f1; iexact H1
  isplitl [H2]; · iexists f2; iexact H2
  iexists f3; iexact H3

omit [FloatOps F] in
/-- so are those of the receive buffer; -/
theorem r_join (c : Dev nD) (f0 f1 f2 f3 : Buf (Elt F) ((c : Thread nD τ).loc cc0_scratch1)) :
    iprop(rPts c 0 f0 ∗ rPts c 1 f1 ∗ rPts c 2 f2 ∗ rPts c 3 f3)
      ⊢ iprop(∃ g, (((c : Thread nD τ).loc cc0_scratch1) ↦{fullShare} g : sProp 𝕄)) := by
  refine BIBase.Entails.trans ?_ (Ring.pointsTo_blocks_join_exists (fun k => (chunkR k).set) (fun t u h => chunk_disj t (Finset.mem_univ _) u (Finset.mem_univ _) h) chunk_cover f0)
  rw [four]
  unfold rPts; simp only [rV_set]
  iintro ⟨H0, H1, H2, H3⟩
  isplitl [H0]; · iexists f0; iexact H0
  isplitl [H1]; · iexists f1; iexact H1
  isplitl [H2]; · iexists f2; iexact H2
  iexists f3; iexact H3

/-- and the four row blocks of the result buffer, block `k` reading `total k`, are the buffer holding `outAt`. -/
theorem o_join (c : Dev nD) (fs : Fin 4 → Buf (Elt F) ((c : Thread nD τ).loc cc0_stg2_0))
    (h : ∀ k, (oV k).read (Elt F) (fs k) = total m c k) :
    iprop(oPts c 0 (fs 0) ∗ oPts c 1 (fs 1) ∗ oPts c 2 (fs 2) ∗ oPts c 3 (fs 3))
      ⊢ (((c : Thread nD τ).loc cc0_stg2_0) ↦{fullShare} outAt m c : sProp 𝕄) := by
  rw [o_split]
  have e : ∀ k, oPts (F := F) c k (fs k) = oPts c k (outAt m c) := fun k => pointsTo_congr fun i hi => by
    obtain ⟨x, -, rfl⟩ := Finset.mem_map.mp hi
    rw [outAt_emb, ← h k]; rfl
  rw [e 0, e 1, e 2, e 3]

end Cert.Exchange
-- ==== Proof.Protocol.lean ====
/-
# The protocol of the exchange

Three kinds of semaphores carry the exchange between a device and its peer.

* The barrier semaphore. A device signals its peer's once, on entry, and waits for one unit on its own. The signal hands
  the signalled device the whole receive buffer of the signaller: from then on it may copy into it.
* The send semaphore of chunk `k`. The copy of chunk `k` raises the sender's own by the chunk's credit when it has read
  its source; what comes back with the wait is the chunk of the send buffer.
* The receive semaphore of chunk `k`. The copy raises the receiver's by the same credit when it has written its
  destination; what comes with the wait is the chunk of the receive buffer, reading what the peer sent.

Every one of these counters is raised once and lowered once, in one round. A device waits on its barrier while it still
owes its peer the four copies, and on a receive semaphore when it owes nothing any more; barrier semaphores are placed
below receive semaphores, so no cycle of waits can arise.
-/
module

public import proofs.«01_k».proof.Proof.Chunks

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev ER : Emb UB (MT nD τ sig Unit (Elt F) ℕ UU ℕ) := embR

/-! ## The semaphores -/

abbrev barS : Sem sig := (SemArray.scalar (sig.barrier 0 rfl) : Sems sig S_).sem

theorem sendS_lt (k : Fin 4) : 3 + k.val < sig.nDmaSem := by revert k; decide
theorem recvS_lt (k : Fin 4) : 7 + k.val < sig.nDmaSem := by revert k; decide

/-- The send and the receive semaphore of chunk `k`. -/
abbrev sendS (k : Fin 4) : DmaSem sig := ⟨3 + k.val, sendS_lt k⟩
abbrev recvS (k : Fin 4) : DmaSem sig := ⟨7 + k.val, recvS_lt k⟩

abbrev barCell (c : Dev nD) : GSem nD τ sig := ((c : Thread nD τ), .reg barS)
abbrev dmaCell (c : Dev nD) (q : DmaSem sig) : GSem nD τ sig := ((c : Thread nD τ), .dma q)
abbrev sendCell (c : Dev nD) (k : Fin 4) : GSem nD τ sig := dmaCell c (sendS k)
abbrev recvCell (c : Dev nD) (k : Fin 4) : GSem nD τ sig := dmaCell c (recvS k)

theorem osem_lt (j : Fin 8) : 3 + j.val < sig.nDmaSem := by revert j; decide

/-- The kernel's own eight semaphores, send before receive, and the nine of the exchange, the barrier first. -/
def osem (j : Fin 8) : SemLoc sig := .dma ⟨3 + j.val, osem_lt j⟩
def csem (j : Fin 9) : SemLoc sig := if h : j.val = 0 then .reg barS else osem ⟨j.val - 1, by have := j.isLt; omega⟩
abbrev kcell (x : Dev nD × Fin 9) : GSem nD τ sig := ((x.1 : Thread nD τ), csem x.2)

/-- Where a DMA semaphore of the exchange stands among the nine. -/
def ixOf (q : DmaSem sig) : Fin 9 := ⟨q.val - 2, by have : q.val < 11 := q.isLt; omega⟩

theorem csem_zero : csem 0 = .reg barS := rfl
theorem csem_ixOf (q : DmaSem sig) (h : 3 ≤ q.val) : csem (ixOf q) = .dma q := by
  unfold csem ixOf osem
  rw [dif_neg (by dsimp only; omega)]
  exact congrArg SemLoc.dma (Fin.ext (by show 3 + (q.val - 2 - 1) = q.val; omega))

/-- The credit of a chunk's copy. -/
abbrev N : ℕ := (rC 0).view.dmaCredit
theorem N_pos : 0 < N := View.dmaCredit_pos _ (by decide)
theorem credit_s (k : Fin 4) : (sC k).view.dmaCredit = N := rfl
theorem credit_r (k : Fin 4) : (rC k).view.dmaCredit = N := rfl

/-! ## The schedule -/

section Sched

variable (m : (ℓ : Loc nD τ sig) → Buf (Elt F) ℓ)

/-- The peer's receive buffer; -/
def barPay (c : Dev nD) : sProp 𝕄 := iprop(∃ f, ((peer c : Thread nD τ).loc cc0_scratch1) ↦{fullShare} f)
/-- chunk `k` of the device's own send buffer; -/
def sendPay (c : Dev nD) (k : Fin 4) : sProp 𝕄 := iprop(∃ f, sPts c k f)
/-- chunk `k` of its receive buffer, holding what the peer sent. -/
def recvPay (c : Dev nD) (k : Fin 4) : sProp 𝕄 := iprop(∃ f, ⌜(rV k).read (Elt F) f = sent m (peer c) k⌝ ∗ rPts c k f)

/-- The chunk a DMA semaphore of the exchange is for. -/
def chunkOf (q : DmaSem sig) : Fin 4 := ⟨(q.val + 1) % 4, Nat.mod_lt _ (by decide)⟩
theorem chunkOf_send (k : Fin 4) : chunkOf (sendS k) = k := by revert k; decide
theorem chunkOf_recv (k : Fin 4) : chunkOf (recvS k) = k := by revert k; decide

/-- A semaphore of the exchange: the barrier's or a DMA semaphore that isn't the staging's. -/
def Used : SemLoc sig → Prop
  | .reg _ => True
  | .dma q => 3 ≤ q.val
instance (sm : SemLoc sig) : Decidable (Used sm) := by cases sm <;> unfold Used <;> infer_instance

/-- What comes with a wait on a semaphore of device `c`. -/
def pay (c : Dev nD) : SemLoc sig → sProp 𝕄
  | .reg _ => barPay c
  | .dma q => if q.val < 7 then sendPay c (chunkOf q) else recvPay m c (chunkOf q)

/-- How much a semaphore is raised. -/
def raise : SemLoc sig → ℕ
  | .reg _ => 1
  | .dma _ => N

theorem raise_pos (sm : SemLoc sig) : 0 < raise sm := by cases sm <;> [exact Nat.one_pos; exact N_pos]

def rd : Rounds.Schedule (GSem nD τ sig) Unit 𝕄 where
  duties g r := if r = 0 ∧ g.1.2 = .tc ∧ Used g.2 then {()} else ∅
  unitless _ := False
  amount g _ _ := raise g.2
  payload g _ _ := pay m g.1.1 g.2
  amount_pos g _ _ _ := raise_pos g.2

omit [FloatOps F] in
instance barPay_storable (c : Dev nD) : BI.Storable (upEmb : UEmb _ 𝕄) (barPay (F := F) c) := by unfold barPay; infer_instance
omit [FloatOps F] in
instance sendPay_storable (c : Dev nD) (k : Fin 4) : BI.Storable (upEmb : UEmb _ 𝕄) (sendPay (F := F) c k) := by
  unfold sendPay; infer_instance
instance recvPay_storable (c : Dev nD) (k : Fin 4) : BI.Storable (upEmb : UEmb _ 𝕄) (recvPay (F := F) m c k) := by
  unfold recvPay; infer_instance

instance pay_storable (c : Dev nD) (sm : SemLoc sig) : BI.Storable (upEmb : UEmb _ 𝕄) (pay (F := F) m c sm) := by
  cases sm with
  | reg s => exact barPay_storable c
  | dma q =>
    show BI.Storable upEmb (if q.val < 7 then sendPay c (chunkOf q) else recvPay m c (chunkOf q))
    by_cases h : q.val < 7
    · rw [if_pos h]; infer_instance
    · rw [if_neg h]; infer_instance

instance rd_storable (g : GSem nD τ sig) (r : ℕ) (d : Unit) : BI.Storable (upEmb : UEmb _ 𝕄) ((rd (F := F) m).payload g r d) :=
  pay_storable m g.1.1 g.2

theorem duties_used (c : Dev nD) {sm : SemLoc sig} (h : Used sm) : (rd (F := F) m).duties ((c : Thread nD τ), sm) 0 = {()} :=
  if_pos ⟨rfl, rfl, h⟩
theorem duties_later (g : GSem nD τ sig) : ∀ r, 1 ≤ r → (rd (F := F) m).duties g r = ∅ := fun r hr => if_neg fun h => by omega

theorem mem_duties (c : Dev nD) {sm : SemLoc sig} (h : Used sm) : () ∈ (rd (F := F) m).duties ((c : Thread nD τ), sm) 0 := by
  rw [duties_used m c h]; exact Finset.mem_singleton_self _

theorem expect_used (c : Dev nD) {sm : SemLoc sig} (h : Used sm) : (rd (F := F) m).expect ((c : Thread nD τ), sm) 0 = raise sm := by
  unfold Schedule.expect Schedule.amountOf; rw [duties_used m c h, Finset.sum_singleton]; rfl

theorem rest_used (c : Dev nD) {sm : SemLoc sig} (h : Used sm) :
    bigSep ((rd (F := F) m).duties ((c : Thread nD τ), sm) 0 \ ∅) (fun d => (rd (F := F) m).payload ((c : Thread nD τ), sm) 0 d) = pay m c sm := by
  rw [Finset.sdiff_empty, duties_used m c h, bigSep_singleton]; rfl

theorem used_send (k : Fin 4) : Used (.dma (sendS k)) := Nat.le_add_right 3 _
theorem used_recv (k : Fin 4) : Used (.dma (recvS k)) := (by decide : 3 ≤ 7).trans (Nat.le_add_right 7 _)

theorem pay_send (c : Dev nD) (k : Fin 4) : pay (F := F) m c (.dma (sendS k)) = sendPay c k := by
  show (if (sendS k).val < 7 then sendPay c (chunkOf (sendS k)) else recvPay m c (chunkOf (sendS k))) = sendPay c k
  rw [if_pos (by have := k.isLt; show 3 + k.val < 7; omega), chunkOf_send]
theorem pay_recv (c : Dev nD) (k : Fin 4) : pay (F := F) m c (.dma (recvS k)) = recvPay m c k := by
  show (if (recvS k).val < 7 then sendPay c (chunkOf (recvS k)) else recvPay m c (chunkOf (recvS k))) = recvPay m c k
  rw [if_neg (by show ¬ 7 + k.val < 7; omega), chunkOf_recv]

end Sched

/-! ## What a device owes, and the order of the waits -/

theorem three_sub_lt (n : ℕ) : 3 - n < 4 := by omega

/-- The copies a device still owes its peer when `n` of them are left: those of the last `n` chunks. -/
def owe (c : Dev nD) : ℕ → CellTallies nD τ sig Unit
  | 0 => 0
  | n + 1 => owe c n + tallyAt (recvCell (peer c) ⟨3 - n, three_sub_lt n⟩) () N

/-- At the start, the four copies and the barrier signal. -/
def O₀ (c : Dev nD) : CellTallies nD τ sig Unit := owe c 4 + tallyAt (barCell (peer c)) () 1

def L (g : GSem nD τ sig) : Finset Unit := if g.1.2 = .tc then {()} else ∅
/-- Staging and send semaphores at 0, barriers at 1, receive semaphores at 2. -/
def lv (g : GSem nD τ sig) (_ : Unit) : ℕ := match g.2 with
  | .reg _ => 1
  | .dma q => if 7 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 4) : lv (recvCell c k) () = 2 := if_pos (Nat.le_add_right 7 _)
theorem lv_bar (c : Dev nD) : lv (barCell c) () = 1 := rfl

theorem tallyAt_pos {g g' : GSem nD τ sig} {u v : Unit} {n : ℕ} (h : 0 < tallyAt g u n g' v) : g' = g := by
  rw [tallyAt_apply] at h
  by_contra hn
  rw [if_neg (fun h' => hn h'.1)] at h
  exact Nat.lt_irrefl 0 h

theorem owe_pos {c : Dev nD} {n : ℕ} {g : GSem nD τ sig} {u : Unit} (h : 0 < owe c n g u) : ∃ k, g = recvCell (peer c) k := by
  induction n with
  | zero => exact absurd h (Nat.lt_irrefl 0)
  | succ n ih =>
    rw [owe, Pi.add_apply, Finsupp.add_apply] at h
    rcases Nat.add_pos_iff_pos_or_pos.mp h with h | h
    · exact ih h
    · exact ⟨_, tallyAt_pos h⟩

theorem O₀_pos {c : Dev nD} {g : GSem nD τ sig} {u : Unit} (h : 0 < O₀ c g u) :
    (∃ k, g = recvCell (peer c) k) ∨ g = barCell (peer c) := by
  unfold O₀ at h
  rw [Pi.add_apply, Finsupp.add_apply] at h
  rcases Nat.add_pos_iff_pos_or_pos.mp h with h | h
  · exact .inl (owe_pos h)
  · exact .inr (tallyAt_pos h)

/-- A staging wait may come when everything is still owed or nothing is any more. -/
theorem mayWait_stage (c : Dev nD) (q : DmaSem sig) (hq : ¬ 7 ≤ q.val) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> exact Finset.mem_singleton_self _)
      (fun p hp => by rw [Finset.mem_singleton.mp hp]; exact (if_neg hq).le)
      (fun g u hg => by
        rcases O₀_pos hg with ⟨k, rfl⟩ | rfl
        · rw [lv_recv]; decide
        · rw [lv_bar]; decide)
  · rw [MayWait_zero]; iintro -; iempintro

/-- At its barrier wait a device owes copies only, and receive semaphores are above barriers. -/
theorem mayWait_bar (c : Dev nD) : (levAts L lv : sProp 𝕄) ⊢ MayWait (c : Thread nD τ) (.reg barS) () (owe c 4) :=
  MayOwe.of_cut (L := L) (lev := lv) 1 (fun p hp => by rw [Finset.mem_singleton.mp hp, L_tc]; exact Finset.mem_singleton_self _)
    (fun g u hg => by obtain ⟨k, rfl⟩ := owe_pos hg; exact Finset.mem_singleton_self _)
    (fun p hp => by rw [Finset.mem_singleton.mp hp]; exact (lv_bar c).le)
    (fun g u hg => by obtain ⟨k, rfl⟩ := owe_pos hg; rw [lv_recv]; decide)

/-! ## What a device starts with -/

section Start

variable (m : (ℓ : Loc nD τ sig) → Buf (Elt F) ℓ)

/-- Every semaphore's invariant, and that it has reached its only round: known to every device. -/
def records (K : Dev nD × Fin 9 → ℕ) : sProp 𝕄 :=
  iprop(bigSep (Finset.univ : Finset (Dev nD × Fin 9)) (fun x => cellInv ER (rd m) (K x) (kcell x))
    ∗ bigSep (Finset.univ : Finset (Dev nD × Fin 9)) (fun x => reached ER (kcell x) 0))

instance records_persistent (K : Dev nD × Fin 9 → ℕ) : BI.Persistent (records m K) := by unfold records; infer_instance

theorem inv_at (K : Dev nD × Fin 9 → ℕ) (x : Dev nD × Fin 9) : records m K ⊢ cellInv ER (rd m) (K x) (kcell x) := by
  have h : bigSep (Finset.univ : Finset (Dev nD × Fin 9)) (fun x => cellInv ER (rd m) (K x) (kcell x)) ⊢ cellInv ER (rd m) (K x) (kcell x) :=
    bigSep_elim (Finset.mem_univ x)
  unfold records; iintro ⟨H, -⟩
  iapply h; iexact H
theorem reached_at (K : Dev nD × Fin 9 → ℕ) (x : Dev nD × Fin 9) : records m K ⊢ reached ER (kcell x) 0 := by
  have h : bigSep (Finset.univ : Finset (Dev nD × Fin 9)) (fun x => (reached ER (kcell x) 0 : sProp 𝕄)) ⊢ reached ER (kcell x) 0 :=
    bigSep_elim (Finset.mem_univ x)
  unfold records; iintro ⟨-, H⟩
  iapply h; iexact H

theorem kcell_ixOf (c : Dev nD) (q : DmaSem sig) (h : 3 ≤ q.val) : kcell (c, ixOf q) = dmaCell c q :=
  congrArg (Prod.mk _) (csem_ixOf q h)

theorem inv_bar (K : Dev nD × Fin 9 → ℕ) (c : Dev nD) : records m K ⊢ cellInv ER (rd m) (K (c, 0)) (barCell c) := inv_at m K (c, 0)
theorem reached_bar (K : Dev nD × Fin 9 → ℕ) (c : Dev nD) : records m K ⊢ reached ER (barCell c) 0 := reached_at m K (c, 0)
theorem inv_dma (K : Dev nD × Fin 9 → ℕ) (c : Dev nD) (q : DmaSem sig) (h : 3 ≤ q.val) :
    records m K ⊢ cellInv ER (rd m) (K (c, ixOf q)) (dmaCell c q) := kcell_ixOf c q h ▸ inv_at m K (c, ixOf q)
theorem reached_dma (K : Dev nD × Fin 9 → ℕ) (c : Dev nD) (q : DmaSem sig) (h : 3 ≤ q.val) :
    records m K ⊢ reached ER (dmaCell c q) 0 := kcell_ixOf c q h ▸ reached_at m K (c, ixOf q)

/-- For the barrier: its own position, and the right to signal the peer's. -/
def barGhost (c : Dev nD) : sProp 𝕄 := iprop(atPos ER (barCell c) 0 ∅ 0 ∗ dutyTok ER (barCell (peer c)) 0 ())
/-- For chunk `k`: its positions at the two semaphores, and the rights to raise its send and the peer's receive semaphore. -/
def chunkGhost (c : Dev nD) (k : Fin 4) : sProp 𝕄 :=
  iprop(atPos ER (sendCell c k) 0 ∅ 0 ∗ atPos ER (recvCell c k) 0 ∅ 0
    ∗ dutyTok ER (sendCell c k) 0 () ∗ dutyTok ER (recvCell (peer c) k) 0 ())

/-- All of it, with the credit for the waits on the barrier and the receive semaphores. -/
def start (c : Dev nD) : sProp 𝕄 :=
  iprop((∃ K, records m K ∗ barGhost c ∗ bigSep Finset.univ (fun k => chunkGhost c k))
    ∗ cred (tallyAt (barCell c) () 1) ∗ bigSep Finset.univ (fun k => (cred (tallyAt (recvCell c k) () N) : sProp 𝕄)) ∗ levAts L lv)

end Start

end Cert.Exchange
-- ==== Proof.Steps.lean ====
/-
# The steps of one chunk

The kernel does the same four things with every chunk: it computes it and fills its send buffer, sends it, receives the
peer's and adds it, and waits until the send is over. Each is stated here once, for any chunk of any device.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ) (K : Dev nD × Fin 9 → ℕ)

/-- A program of device `c` and its weakest precondition. -/
abbrev Pr (α : Type) := Prog (TpuEff nD τ sig (Elt F) Λ₀ .tc) α
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The staged block of `A`, whole. -/
abbrev aPts (c : Dev nD) : sProp 𝕄 := ((c : Thread nD τ).loc cc0_stg0_0) ↦{fullShare} astg m c

/-- Rows `k` of the result holding the device's own product, or the sum with the peer's; chunk `k` of the send buffer
    holding the rounded product. -/
def oPart (c : Dev nD) (k : Fin 4) : sProp 𝕄 := iprop(∃ f, ⌜(oV k).read (Elt F) f = part m c k⌝ ∗ oPts c k f)
def oTotal (c : Dev nD) (k : Fin 4) : sProp 𝕄 := iprop(∃ f, ⌜(oV k).read (Elt F) f = total m c k⌝ ∗ oPts c k f)
def sFull (c : Dev nD) (k : Fin 4) : sProp 𝕄 := iprop(∃ f, ⌜(sV k).read (Elt F) f = sent m c k⌝ ∗ sPts c k f)

section Fill

/-- Chunk `k` computed: the product kept in the result buffer, its rounded copy put into the send buffer. -/
theorem run_fill (c : Dev nD) (k : Fin 4) {h1 h2 h3 h4 h5 h6 h7} {α : Type} {Q : α → sProp 𝕄} {kk : PUnit → Prog (TpuEff nD τ sig (Elt F) Λ₀ .tc) α}
    (fo : Buf (Elt F) ((c : Thread nD τ).loc cc0_stg2_0)) (fs : Buf (Elt F) ((c : Thread nD τ).loc cc0_scratch0)) :
    iprop(aPts m c ∗ oPts c k fo ∗ sPts c k fs)
      ⊢ iprop(((aPts m c ∗ oPart m c k ∗ sFull m c k) -∗ run c (kk ⟨⟩) Q)
          -∗ run c (.op (.load aM (aRowsR k) h1) fun v => .op (.load oM (rowsR k) h2) fun _ =>
              .op (.store oM (rowsR k) (k0_pay4 (k0_pay1 (bstg m c)) v) Finset.univ h3 h4) fun _ =>
              .op (.load sM (chunkR k) h5) fun _ =>
              .op (.store sM (chunkR k) (k0_pay5 (k0_pay1 (bstg m c)) v) Finset.univ h6 h7) kk) Q) := by
  unfold oPts sPts
  iintro ⟨Ha, Ho, Hs⟩ Hk
  iapply (wp_load_rect 𝒱₀ (c : Thread nD τ) none Set.univ (m := aM) (r := aRowsR k) (Finset.subset_univ _)) $$ Ha; iintro Ha
  iapply (wp_load_rect 𝒱₀ (c : Thread nD τ) none Set.univ (m := oM) (r := rowsR k) (Finset.Subset.refl _)) $$ Ho; iintro Ho
  iapply (wp_store 𝒱₀ (c : Thread nD τ) none Set.univ (m := oM) (r := rowsR k) (Mk := Finset.univ) (S := (oV k).set) (Finset.Subset.refl _)) $$ Ho; iintro Ho
  iapply (wp_load_rect 𝒱₀ (c : Thread nD τ) none Set.univ (m := sM) (r := chunkR k) (Finset.Subset.refl _)) $$ Hs; iintro Hs
  iapply (wp_store 𝒱₀ (c : Thread nD τ) none Set.univ (m := sM) (r := chunkR k) (Mk := Finset.univ) (S := (sV k).set) (Finset.Subset.refl _)) $$ Hs; iintro Hs
  iapply Hk
  isplitl [Ha]; · iexact Ha
  unfold oPart sFull oPts sPts
  isplitl [Ho]
  · iexists (oV k).write (Elt F) fo (part m c k) Finset.univ; isplitr
    · ipureintro; exact View.read_write_univ _ _
    iexact Ho
  · iexists (sV k).write (Elt F) fs (sent m c k) Finset.univ; isplitr
    · ipureintro; exact View.read_write_univ _ _
    iexact Hs

/-- The peer's chunk `k` added to the device's own product. -/
theorem run_add (c : Dev nD) (k : Fin 4) {h1 h2 h3 h4 h5} {α : Type} {Q : α → sProp 𝕄} {kk : PUnit → Prog (TpuEff nD τ sig (Elt F) Λ₀ .tc) α} :
    iprop(oPart m c k ∗ recvPay m c k)
      ⊢ iprop(((oTotal m c k ∗ recvPay m c k) -∗ run c (kk ⟨⟩) Q)
          -∗ run c (.op (.load oM (rowsR k) h1) fun v => .op (.load rM (chunkR k) h2) fun w => .op (.load oM (rowsR k) h3) fun _ =>
              .op (.store oM (rowsR k) (k0_pay10 v w) Finset.univ h4 h5) kk) Q) := by
  unfold oPart oTotal recvPay oPts rPts
  iintro ⟨⟨%fo, %ho, Ho⟩, ⟨%fr, %hr, Hr⟩⟩ Hk
  iapply (wp_load_rect 𝒱₀ (c : Thread nD τ) none Set.univ (m := oM) (r := rowsR k) (Finset.Subset.refl _)) $$ Ho; iintro Ho
  iapply (wp_load_rect 𝒱₀ (c : Thread nD τ) none Set.univ (m := rM) (r := chunkR k) (Finset.Subset.refl _)) $$ Hr; iintro Hr
  iapply (wp_load_rect 𝒱₀ (c : Thread nD τ) none Set.univ (m := oM) (r := rowsR k) (Finset.Subset.refl _)) $$ Ho; iintro Ho
  iapply (wp_store 𝒱₀ (c : Thread nD τ) none Set.univ (m := oM) (r := rowsR k) (Mk := Finset.univ) (S := (oV k).set) (Finset.Subset.refl _)) $$ Ho; iintro Ho
  iapply Hk
  isplitl [Ho]
  · iexists (oV k).write (Elt F) fo (k0_pay10 ((oV k).read (Elt F) fo) ((rV k).read (Elt F) fr)) Finset.univ; isplitr
    · ipureintro
      refine (View.read_write_univ _ _).trans ?_
      rw [ho, hr]; rfl
    iexact Ho
  · iexists fr; isplitr
    · ipureintro; exact hr
    iexact Hr

end Fill

section Move

/-- Chunk `k` sent to the peer (named `n` in the program). Its receive buffer's chunk, which the barrier brought, goes
    with the copy; what the device owes falls by this copy. -/
theorem run_send (c n : Dev nD) (hn : n = peer c) (k : Fin 4)
    {hsc : (rC k : Memref sig (Dev.tc n : Thread nD τ).2.kind .vmem S128x512 .bf16).view.ref.isScScratch = false}
    {hsrc : (sC k).view.WordExact} {hdst : (rC k).view.WordExact}
    {hsem : DmaTarget.Typed .vmem (.dma (recvS k)) (.remote (Dev.tc n : Thread nD τ) (rC k) (.dma (sendS k)) hsc)}
    {α : Type} {Q : α → sProp 𝕄} {kk : PUnit → Prog (TpuEff nD τ sig (Elt F) Λ₀ .tc) α}
    (fd : Buf (Elt F) ((peer c : Thread nD τ).loc cc0_scratch1)) (O : CellTallies nD τ sig Unit) (W : Waits sig Unit) :
    iprop(records m K ∗ sFull m c k ∗ rPts (peer c) k fd
        ∗ owes (c : Thread nD τ) (O + tallyAt (recvCell (peer c) k) () N) W
        ∗ dutyTok ER (sendCell c k) 0 () ∗ dutyTok ER (recvCell (peer c) k) 0 ())
      ⊢ iprop(((cred (tallyAt (sendCell c k) () N) ∗ owes (c : Thread nD τ) O W) -∗ run c (kk ⟨⟩) Q)
          -∗ run c (.op (.enqueueDma (sC k) (.remote (Dev.tc n : Thread nD τ) (rC k) (.dma (sendS k)) hsc) (.dma (recvS k)) hsrc hdst hsem) kk) Q) := by
  subst hn
  unfold sFull
  iintro ⟨#HR, ⟨%fs, %hs, Hs⟩, Hr, Ho, Ht1, Ht2⟩
  have es : sPts (F := F) c k fs = (((c : Thread nD τ).loc cc0_scratch0) ↦[(sC k).view.set]{fullShare} fs : sProp 𝕄) := by
    unfold sPts; rw [sC_set]
  have er : ∀ f, rPts (F := F) (peer c) k f = (((peer c : Thread nD τ).loc cc0_scratch1) ↦[(rC k).view.set]{fullShare} f : sProp 𝕄) := fun f => by
    unfold rPts; rw [rC_set]
  ihave Hs := (Entails.of_eq es) $$ Hs
  ihave Hr := (Entails.of_eq (er fd)) $$ Hr
  iapply (Rounds.wp_send_pointsTo 𝒱₀ ER (rd m) (c : Thread nD τ) none (c' := (peer c : Thread nD τ)) (src := sC k) (dst := rC k) (κ₁ := K (c, ixOf (sendS k))) (κ₂ := K (peer c, ixOf (recvS k)))
    (r₁ := 0) (r₂ := 0) (d₁ := ()) (d₂ := ()) (fs := fs) (fd := fd) (q := fullShare)
    (mem_duties m c (used_send k)) (mem_duties m (peer c) (used_recv k))
    () () N rfl rfl rfl O rfl (W := W)
    (by
      show _ ⊢ pay m c (.dma (sendS k))
      rw [pay_send]; unfold sendPay
      iintro H; iexists fs; rw [es]; iexact H)
    (by
      show _ ⊢ pay m (peer c) (.dma (recvS k))
      rw [pay_recv]; unfold recvPay
      iintro H; iexists _; isplitr
      · ipureintro
        rw [peer_peer]
        exact (landing k fd fs).trans hs
      rw [er]; iexact H)) $$ [Hs Hr Ho Ht1 Ht2]
  isplitr; · iapply (inv_dma m K c (sendS k) (used_send k)); iexact HR
  isplitr; · iapply (inv_dma m K (peer c) (recvS k) (used_recv k)); iexact HR
  isplitl [Hs]; · iexact Hs
  isplitl [Hr]; · iexact Hr
  isplitl [Ho]; · iexact Ho
  isplitl [Ht1]; · iexact Ht1
  isplitr; · iapply (reached_dma m K c (sendS k) (used_send k)); iexact HR
  isplitl [Ht2]; · iexact Ht2
  iapply (reached_dma m K (peer c) (recvS k) (used_recv k)); iexact HR

/-- A wait for a chunk's copy, at the sender or at the receiver, the device owing nothing: the semaphore is at zero for
    good, and what its copy promised comes back. -/
theorem run_wait (c : Dev nD) (q : DmaSem sig) (hq : 3 ≤ q.val) {src dst : Memref sig .tc .vmem S128x512 .bf16}
    (hN : dst.view.dmaCredit = N) {h1 h2}
    {α : Type} {Q : α → sProp 𝕄} {kk : PUnit → Prog (TpuEff nD τ sig (Elt F) Λ₀ .tc) α} (W : Waits sig Unit) :
    iprop(records m K ∗ cred (tallyAt (dmaCell c q) () N) ∗ owes (c : Thread nD τ) 0 W ∗ atPos ER (dmaCell c q) 0 ∅ 0)
      ⊢ iprop(((owes (c : Thread nD τ) 0 (insert (SemLoc.dma q, ()) W) ∗ semVal (dmaCell c q) 0 ∗ pay m c (.dma q)) -∗ run c (kk ⟨⟩) Q)
          -∗ run c (.op (.waitDma2 q src dst h1 h2) kk) Q) := by
  iintro ⟨#HR, Hc, Ho, Hat⟩ Hk
  ihave #HI := (inv_dma m K c q hq) $$ HR
  rw [← hN]
  iapply (Rounds.wp_wait_rest_token 𝒱₀ ER (rd m) (c : Thread nD τ) none (κ := K (c, ixOf q))
      (wpE_waitDma2_eq 𝒱₀ (c : Thread nD τ) none Set.univ) (Set.mem_univ _) () (O := 0) (W := W) (R := 0) (m := 0) (T := ∅)
      (by rw [Nat.zero_add, expect_used m c (sm := .dma q) hq, hN]; rfl)) $$ [Hc Ho Hat]
  · isplitr; · iexact HI
    isplitl [Hc]; · iexact Hc
    isplitl [Ho]; · iexact Ho
    isplitr; · rw [MayWait_zero]; iempintro
    iexact Hat
  iintro ⟨Ho, Hat, -, Hp⟩
  imod (Rounds.cell_close ER (rd m) (Set.mem_univ (K (c, ixOf q))) (fun h => h) (R := 0 + 1) (duties_later m (dmaCell c q))) $$ [Hat] with Hz
  · isplitr; · iexact HI
    iexact Hat
  ihave Hp' := (Entails.of_eq (rest_used m c (sm := .dma q) hq)) $$ Hp
  iapply Hk
  isplitl [Ho]; · iexact Ho
  isplitl [Hz]; · iexact Hz
  iexact Hp'

end Move

end Cert.Exchange
-- ==== Proof.Body.lean ====
/-
# One device's run of the kernel
-/
module

public import proofs.«01_k».proof.Proof.Steps
public import proofs.«01_k».proof.Proof.Gen.KernelIdeal.Points

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The pipeline's proof data: one grid point, three windows -/

theorem fin_N (t : Fin cfg0.N) : t = t0_0 := fin_N0 t

/-- Before the point: what the device starts with, its send and its receive buffer at any contents. -/
def Φ₀ (c : Dev nD) : sProp 𝕄 :=
  iprop(start m c ∗ (∃ f, ((c : Thread nD τ).loc cc0_scratch0) ↦{fullShare} f) ∗ ∃ f, ((c : Thread nD τ).loc cc0_scratch1) ↦{fullShare} f)

/-- After it: the two buffers again and every semaphore of the exchange at zero. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ semVal (barCell c) 0 ∗ bigSep Finset.univ (fun k => (semVal (sendCell c k) 0 : sProp 𝕄))
    ∗ bigSep Finset.univ (fun k => (semVal (recvCell c k) 0 : sProp 𝕄)))

def dats (_ : Fin 1) (c : Dev nD) : Dat τ (Elt F) Unit ℕ UU ℕ cfg0 c where
  A w := m ((cfg0.win w).arr.view.loc (c : Thread nD τ))
  after w _ := match w with
    | ⟨0, _⟩ => astg m c
    | ⟨1, _⟩ => bstg m c
    | ⟨2, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
/-- A staging buffer held whole at given contents. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The semaphores the program names -/

/-- Element `k` of an array of four consecutive semaphores is the semaphore `k` places after its first. -/
theorem elem_val (base k : ℕ) (hb : base + S4.numel ≤ sig.nDmaSem) (h) :
    ((((SemArray.consecutive base S4 hb : DmaSems sig S4).slice (Rect.unit (s := S4) ![k] S1.size h)).squeeze S_ squeezes_S1_S_).sem : DmaSem sig).val
      = base + k := by
  have key : ∀ j : S1.Idx, (S4.rowMajor ((Rect.unit (s := S4) ![k] S1.size h).emb j)).val = k := fun j => by
    rw [Shape.rowMajor_val_one]
    have hj : (j 0).val < 1 := (j 0).isLt
    show k + 1 * (j 0).val = k
    omega
  exact congrArg (base + ·) (key _)

theorem sendSem_eq (k : ℕ) (hk : k < 4) (h) :
    ((cc0_scratch2.slice (Rect.unit (s := S4) ![k] S1.size h)).squeeze S_ squeezes_S1_S_).sem = sendS ⟨k, hk⟩ := Fin.ext (elem_val 3 k _ h)
theorem recvSem_eq (k : ℕ) (hk : k < 4) (h) :
    ((cc0_scratch3.slice (Rect.unit (s := S4) ![k] S1.size h)).squeeze S_ squeezes_S1_S_).sem = recvS ⟨k, hk⟩ := Fin.ext (elem_val 7 k _ h)

theorem zero2 : (![0, 0] : Fin 2 → ℕ) = fun _ => 0 := funext fun a => by fin_cases a <;> rfl

omit [FloatOps F] in
/-- The load of the block of `B` reads it all. -/
theorem read_b (f : (cc0_stg1_0 : Ref sig .tc).ty.Contents (Elt F)) (h) :
    bM.view.readAt (Elt F) (Rect.unit (s := S256x512) ![0, 0] S256x512.size h).toLoadRect f = f :=
  Memref.readAt_unit_zero (Elt F) cc0_stg1_0 zero2 _ f

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def bodyPost (c : Dev nD) : sProp 𝕄 :=
  iprop(Φ₁ c ∗ (dats m 0 c).owesAt () t0_0.succ ∗ stg c cc0_stg0_0 (astg m c) ∗ stg c cc0_stg1_0 (bstg m c) ∗ stg c cc0_stg2_0 (outAt m c))

set_option maxHeartbeats 1600000 in
theorem sound_body (c : Dev nD) (Kt : PUnit → sProp 𝕄) :
    iprop(bodyPre m c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part7_eq_skeleton]; unfold k0_part7_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, Prog.bind_assoc, wp_deviceId]
  simp only [sendSem_eq 0 (by decide), sendSem_eq 1 (by decide), sendSem_eq 2 (by decide), sendSem_eq 3 (by decide),
    recvSem_eq 0 (by decide), recvSem_eq 1 (by decide), recvSem_eq 2 (by decide), recvSem_eq 3 (by decide), dev1_eq c]
  unfold bodyPre Φ₀ start barGhost
  simp only [four]
  iintro ⟨⟨⟨⟨⟨%K, #HR, ⟨HaB, HtB⟩, Hg0, Hg1, Hg2, Hg3⟩, HcB, ⟨Hc0, Hc1, Hc2, Hc3⟩, #Hlev⟩, ⟨%fs, Hs⟩, Hr⟩,
    Ho, ⟨%d0, %g0, %hg0, Ha⟩, ⟨%d1, %g1, %hg1, Hb⟩, ⟨%d2, %g2, %hg2, Hout⟩⟩, Hk⟩
  have ha : g0 = astg m c := by rw [hg0]; unfold Dat.before; rw [if_pos (fetch0_0 t0_0)]; rfl
  have hb : g1 = bstg m c := by rw [hg1]; unfold Dat.before; rw [if_pos (fetch0_1 t0_0)]; rfl
  subst ha hb
  unfold Dat.owesAt Pipeline.owesWithin
  icases Ho with ⟨%W, %hW, HO⟩
  rw [show (dats m 0 c).owed t0_0.castSucc = owe c 4 + tallyAt (barCell (peer c)) () 1 from rfl]
  -- the signal to the peer's barrier hands it the receive buffer
  iapply (Rounds.wp_signal 𝒱₀ ER (rd m) (c : Thread nD τ) none (dst := (peer c : Thread nD τ)) (κ := K (peer c, 0))
      (d := ()) (mem_duties m (peer c) (sm := .reg barS) trivial) (show (1 : ℕ) = _ by decide) () (owe c 4) rfl) $$ [HO HtB Hr]
  · isplitr; · iapply (inv_bar m K (peer c)); iexact HR
    isplitl [HO]; · iexact HO
    isplitl [HtB]; · iexact HtB
    isplitl [Hr]
    · iapply (show iprop(∃ f, ((c : Thread nD τ).loc cc0_scratch1) ↦{fullShare} f) ⊢ (rd m).payload (barCell (peer c)) 0 () from by
        show _ ⊢ iprop(∃ f, ((peer (peer c) : Thread nD τ).loc cc0_scratch1) ↦{fullShare} f)
        rw [peer_peer])
      iexact Hr
    iapply (reached_bar m K (peer c)); iexact HR
  iintro HO
  -- the wait on its own barrier brings the peer's
  iapply (Rounds.wp_wait_rest_token 𝒱₀ ER (rd m) (c : Thread nD τ) none (κ := K (c, 0))
      (wpE_semWait_eq 𝒱₀ (c : Thread nD τ) none Set.univ) (Set.mem_univ _) () (O := owe c 4) (W := W) (R := 0) (m := 0) (T := ∅)
      (by rw [expect_used m c (sm := .reg barS) trivial]; decide)) $$ [HcB HO HaB]
  · isplitr; · iapply (inv_bar m K c); iexact HR
    isplitl [HcB]; · iexact HcB
    isplitl [HO]; · iexact HO
    isplitr; · iapply (mayWait_bar c); iexact Hlev
    iexact HaB
  iintro ⟨HO, HaB, -, Hp⟩
  imod (Rounds.cell_close ER (rd m) (Set.mem_univ (K (c, 0))) (fun h => h) (R := 0 + 1) (duties_later m (barCell c))) $$ [HaB] with HzB
  · isplitr; · iapply (inv_bar m K c); iexact HR
    iexact HaB
  ihave Hp := (Entails.of_eq ((rest_used m c (sm := .reg barS) trivial).trans (show pay m c (.reg barS) = barPay c from rfl))) $$ Hp
  unfold barPay
  icases Hp with ⟨%fd, Hp⟩
  -- the buffers, chunk by chunk
  ihave Hp := (Entails.of_eq (r_split (peer c) fd)) $$ Hp
  icases Hp with ⟨Hp0, Hp1, Hp2, Hp3⟩
  ihave Hs := (Entails.of_eq (s_split c fs)) $$ Hs
  icases Hs with ⟨Hs0, Hs1, Hs2, Hs3⟩
  ihave Hout := (Entails.of_eq (o_split c g2)) $$ Hout
  icases Hout with ⟨Ho0, Ho1, Ho2, Ho3⟩
  unfold chunkGhost
  icases Hg0 with ⟨HaS0, HaR0, HtS0, HtR0⟩
  icases Hg1 with ⟨HaS1, HaR1, HtS1, HtR1⟩
  icases Hg2 with ⟨HaS2, HaR2, HtS2, HtR2⟩
  icases Hg3 with ⟨HaS3, HaR3, HtS3, HtR3⟩
  iapply (wp_load 𝒱₀ (c : Thread nD τ) none Set.univ (m := bM) (Finset.subset_univ _)) $$ Hb; iintro Hb
  rw [read_b]
  -- every chunk filled and sent
  iapply (run_fill m c 0 g2 fs) $$ [Ha Ho0 Hs0]
  · isplitl [Ha]; · iexact Ha
    isplitl [Ho0] <;> iassumption
  iintro ⟨Ha, Ho0, Hs0⟩
  iapply (run_send m K c _ (dev2_eq c) 0 fd (owe c 3) _) $$ [Hs0 Hp0 HO HtS0 HtR0]
  · isplitr; · iexact HR
    isplitl [Hs0]; · iexact Hs0
    isplitl [Hp0]; · iexact Hp0
    isplitl [HO]; · iexact HO
    isplitl [HtS0] <;> iassumption
  iintro ⟨HcS0, HO⟩
  iapply (run_fill m c 1 g2 fs) $$ [Ha Ho1 Hs1]
  · isplitl [Ha]; · iexact Ha
    isplitl [Ho1] <;> iassumption
  iintro ⟨Ha, Ho1, Hs1⟩
  iapply (run_send m K c _ (dev3_eq c) 1 fd (owe c 2) _) $$ [Hs1 Hp1 HO HtS1 HtR1]
  · isplitr; · iexact HR
    isplitl [Hs1]; · iexact Hs1
    isplitl [Hp1]; · iexact Hp1
    isplitl [HO]; · iexact HO
    isplitl [HtS1] <;> iassumption
  iintro ⟨HcS1, HO⟩
  iapply (run_fill m c 2 g2 fs) $$ [Ha Ho2 Hs2]
  · isplitl [Ha]; · iexact Ha
    isplitl [Ho2] <;> iassumption
  iintro ⟨Ha, Ho2, Hs2⟩
  iapply (run_send m K c _ (dev4_eq c) 2 fd (owe c 1) _) $$ [Hs2 Hp2 HO HtS2 HtR2]
  · isplitr; · iexact HR
    isplitl [Hs2]; · iexact Hs2
    isplitl [Hp2]; · iexact Hp2
    isplitl [HO]; · iexact HO
    isplitl [HtS2] <;> iassumption
  iintro ⟨HcS2, HO⟩
  iapply (run_fill m c 3 g2 fs) $$ [Ha Ho3 Hs3]
  · isplitl [Ha]; · iexact Ha
    isplitl [Ho3] <;> iassumption
  iintro ⟨Ha, Ho3, Hs3⟩
  iapply (run_send m K c _ (dev5_eq c) 3 fd (owe c 0) _) $$ [Hs3 Hp3 HO HtS3 HtR3]
  · isplitr; · iexact HR
    isplitl [Hs3]; · iexact Hs3
    isplitl [Hp3]; · iexact Hp3
    isplitl [HO]; · iexact HO
    isplitl [HtS3] <;> iassumption
  iintro ⟨HcS3, HO⟩
  rw [show owe c 0 = 0 from rfl]
  -- every chunk of the peer's received and added
  iapply (run_wait m K c (recvS 0) (used_recv 0) (credit_r 0) _) $$ [Hc0 HO HaR0]
  · isplitr; · iexact HR
    isplitl [Hc0]; · iexact Hc0
    isplitl [HO] <;> iassumption
  iintro ⟨HO, HzR0, Hr0⟩
  ihave Hr0 := (Entails.of_eq (pay_recv m c 0)) $$ Hr0
  iapply (run_add m c 0) $$ [Ho0 Hr0]
  · isplitl [Ho0] <;> iassumption
  iintro ⟨Ho0, Hr0⟩
  iapply (run_wait m K c (recvS 1) (used_recv 1) (credit_r 1) _) $$ [Hc1 HO HaR1]
  · isplitr; · iexact HR
    isplitl [Hc1]; · iexact Hc1
    isplitl [HO] <;> iassumption
  iintro ⟨HO, HzR1, Hr1⟩
  ihave Hr1 := (Entails.of_eq (pay_recv m c 1)) $$ Hr1
  iapply (run_add m c 1) $$ [Ho1 Hr1]
  · isplitl [Ho1] <;> iassumption
  iintro ⟨Ho1, Hr1⟩
  iapply (run_wait m K c (recvS 2) (used_recv 2) (credit_r 2) _) $$ [Hc2 HO HaR2]
  · isplitr; · iexact HR
    isplitl [Hc2]; · iexact Hc2
    isplitl [HO] <;> iassumption
  iintro ⟨HO, HzR2, Hr2⟩
  ihave Hr2 := (Entails.of_eq (pay_recv m c 2)) $$ Hr2
  iapply (run_add m c 2) $$ [Ho2 Hr2]
  · isplitl [Ho2] <;> iassumption
  iintro ⟨Ho2, Hr2⟩
  iapply (run_wait m K c (recvS 3) (used_recv 3) (credit_r 3) _) $$ [Hc3 HO HaR3]
  · isplitr; · iexact HR
    isplitl [Hc3]; · iexact Hc3
    isplitl [HO] <;> iassumption
  iintro ⟨HO, HzR3, Hr3⟩
  ihave Hr3 := (Entails.of_eq (pay_recv m c 3)) $$ Hr3
  iapply (run_add m c 3) $$ [Ho3 Hr3]
  · isplitl [Ho3] <;> iassumption
  iintro ⟨Ho3, Hr3⟩
  -- every send over
  iapply (run_wait m K c (sendS 0) (used_send 0) (credit_s 0) _) $$ [HcS0 HO HaS0]
  · isplitr; · iexact HR
    isplitl [HcS0]; · iexact HcS0
    isplitl [HO] <;> iassumption
  iintro ⟨HO, HzS0, Hs0⟩
  ihave Hs0 := (Entails.of_eq (pay_send m c 0)) $$ Hs0
  iapply (run_wait m K c (sendS 1) (used_send 1) (credit_s 1) _) $$ [HcS1 HO HaS1]
  · isplitr; · iexact HR
    isplitl [HcS1]; · iexact HcS1
    isplitl [HO] <;> iassumption
  iintro ⟨HO, HzS1, Hs1⟩
  ihave Hs1 := (Entails.of_eq (pay_send m c 1)) $$ Hs1
  iapply (run_wait m K c (sendS 2) (used_send 2) (credit_s 2) _) $$ [HcS2 HO HaS2]
  · isplitr; · iexact HR
    isplitl [HcS2]; · iexact HcS2
    isplitl [HO] <;> iassumption
  iintro ⟨HO, HzS2, Hs2⟩
  ihave Hs2 := (Entails.of_eq (pay_send m c 2)) $$ Hs2
  iapply (run_wait m K c (sendS 3) (used_send 3) (credit_s 3) _) $$ [HcS3 HO HaS3]
  · isplitr; · iexact HR
    isplitl [HcS3]; · iexact HcS3
    isplitl [HO] <;> iassumption
  iintro ⟨HO, HzS3, Hs3⟩
  ihave Hs3 := (Entails.of_eq (pay_send m c 3)) $$ Hs3
  -- the chunks put together again
  unfold run; rw [wp_ret]; imodintro
  unfold oTotal sendPay recvPay
  icases Ho0 with ⟨%o0, %ho0, Ho0⟩
  icases Ho1 with ⟨%o1, %ho1, Ho1⟩
  icases Ho2 with ⟨%o2, %ho2, Ho2⟩
  icases Ho3 with ⟨%o3, %ho3, Ho3⟩
  icases Hs0 with ⟨%s0, Hs0⟩
  icases Hs1 with ⟨%s1, Hs1⟩
  icases Hs2 with ⟨%s2, Hs2⟩
  icases Hs3 with ⟨%s3, Hs3⟩
  icases Hr0 with ⟨%r0, -, Hr0⟩
  icases Hr1 with ⟨%r1, -, Hr1⟩
  icases Hr2 with ⟨%r2, -, Hr2⟩
  icases Hr3 with ⟨%r3, -, Hr3⟩
  ihave Hout := (o_join m c ![o0, o1, o2, o3] (by intro k; fin_cases k <;> assumption)) $$ [Ho0 Ho1 Ho2 Ho3]
  · isplitl [Ho0]; · iexact Ho0
    isplitl [Ho1]; · iexact Ho1
    isplitl [Ho2]; · iexact Ho2
    iexact Ho3
  ihave Hs := (s_join c s0 s1 s2 s3) $$ [Hs0 Hs1 Hs2 Hs3]
  · isplitl [Hs0]; · iexact Hs0
    isplitl [Hs1]; · iexact Hs1
    isplitl [Hs2] <;> iassumption
  ihave Hr := (r_join c r0 r1 r2 r3) $$ [Hr0 Hr1 Hr2 Hr3]
  · isplitl [Hr0]; · iexact Hr0
    isplitl [Hr1]; · iexact Hr1
    isplitl [Hr2] <;> iassumption
  iapply Hk
  unfold bodyPost Φ₁ Dat.owesAt Pipeline.owesWithin
  rw [show (dats m 0 c).owed t0_0.succ = 0 from rfl]
  simp only [four]
  isplitl [Hs Hr HzB HzS0 HzS1 HzS2 HzS3 HzR0 HzR1 HzR2 HzR3]
  · isplitl [Hs]; · iexact Hs
    isplitl [Hr]; · iexact Hr
    isplitl [HzB]; · iexact HzB
    isplitl [HzS0 HzS1 HzS2 HzS3]
    · isplitl [HzS0]; · iexact HzS0
      isplitl [HzS1]; · iexact HzS1
      isplitl [HzS2] <;> iassumption
    · isplitl [HzR0]; · iexact HzR0
      isplitl [HzR1]; · iexact HzR1
      isplitl [HzR2] <;> iassumption
  isplitl [HO]
  · iexists insert (SemLoc.dma (sendS 3), ()) (insert (SemLoc.dma (sendS 2), ()) (insert (SemLoc.dma (sendS 1), ()) (insert (SemLoc.dma (sendS 0), ())
      (insert (SemLoc.dma (recvS 3), ()) (insert (SemLoc.dma (recvS 2), ()) (insert (SemLoc.dma (recvS 1), ()) (insert (SemLoc.dma (recvS 0), ())
        (insert (SemLoc.reg barS, ()) W))))))))
    isplitr; · ipureintro; exact fun _ _ => Or.inl trivial
    iexact HO
  isplitl [Ha]
  · iexists _; isplitr; · (ipureintro; rfl)
    iexact Ha
  isplitl [Hb]
  · iexists _; isplitr; · (ipureintro; rfl)
    iexact Hb
  iexists _; isplitr; · (ipureintro; rfl)
  iexact Hout

/-- What the pipeline asks of the body at its one grid point. -/
theorem body_obligation (c : Dev nD) : BodyObligation (dats m 0 c) (defs₀ (F := F)) 𝒱₀ () Set.univ := fun t => by
  rw [fin_N t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole]
  show bodyPre m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _)
      (Memref.whole cc0_scratch0) (Memref.isWhole_whole _) (Memref.whole cc0_scratch1) (Memref.isWhole_whole _) cc0_scratch2 cc0_scratch3)
    (fun _ => bodyPost m c)
  iintro H
  iapply (sound_body m c fun _ => bodyPost m c)
  isplitl
  · iexact H
  · iintro H; iexact H

end Cert.Exchange
-- ==== Proof.Launch.lean ====
/-
# The launch on the whole mesh

All nine semaphores of the exchange on all four devices get their invariants at once, since a device and its peer share
them. Each has one duty; the rights to the duties of the barrier and the receive semaphores go to the peer, which
performs them, and those of the send semaphores stay. What remains is the run of the whole program: it ends, every
semaphore is back at zero, and the result array of device `c` holds `outAt m c`.
-/
module

public import proofs.«01_k».proof.Proof.Body
public import Idealize.ShloMosaic.Lib.Pipeline.ValueKit
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev EP : Emb (UR sig nD τ) (MT nD τ sig Unit (Elt F) ℕ UU ℕ) := embL

variable (m : (ℓ : Loc nD τ sig) → Buf (Elt F) ℓ) (ρ : Dev nD → PrngReg)

/-! ## The cells and their tokens -/

theorem ownSemFacts : Pipeline.OwnSemFacts cfg0.spec osem := by decide

theorem csem_injective : Function.Injective csem := by decide

theorem kcell_injective : Function.Injective (kcell : Dev nD × Fin 9 → GSem nD τ sig) := fun x y h =>
  Prod.ext (congrArg (fun g : GSem nD τ sig => g.1.1) h) (csem_injective (congrArg Prod.snd h))

def xCells : Finset (GSem nD τ sig) := Finset.univ.map ⟨kcell, kcell_injective⟩

/-- Every cell's one duty. -/
def dutyOf (x : Dev nD × Fin 9) : GSem nD τ sig × ℕ × Unit := (kcell x, 0, ())
theorem dutyOf_injective : Function.Injective dutyOf := fun _ _ h => kcell_injective (congrArg Prod.fst h)
def xToks : Finset (GSem nD τ sig × ℕ × Unit) := Finset.univ.map ⟨dutyOf, dutyOf_injective⟩

def u₀ : UU :=
  (initOf (Pipeline.cells cfgs cellOf_inj) (Pipeline.launchToks cfgs cellOf_inj), initOf xCells xToks)

/-- One conjunct for each of a device's nine cells. -/
def nineOf (c : Dev nD) (Φ : GSem nD τ sig → sProp 𝕄) : sProp 𝕄 := bigSep Finset.univ fun j : Fin 9 => Φ (kcell (c, j))

omit [FloatOps F] in
theorem nineOf_list (c : Dev nD) (Φ : GSem nD τ sig → sProp 𝕄) :
    nineOf c Φ = iprop(Φ (barCell c) ∗ Φ (sendCell c 0) ∗ Φ (sendCell c 1) ∗ Φ (sendCell c 2) ∗ Φ (sendCell c 3)
      ∗ Φ (recvCell c 0) ∗ Φ (recvCell c 1) ∗ Φ (recvCell c 2) ∗ Φ (recvCell c 3)) :=
  bigSep_univ_eq_bigSepL [0, 1, 2, 3, 4, 5, 6, 7, 8] (by decide) (by decide) _

omit [FloatOps F] in
/-- They are the barrier's, the send semaphores' and the receive semaphores'. -/
theorem nineOf_eq (c : Dev nD) (Φ : GSem nD τ sig → sProp 𝕄) :
    nineOf c Φ = iprop(Φ (barCell c) ∗ (bigSep Finset.univ fun k => Φ (sendCell c k)) ∗ bigSep Finset.univ fun k => Φ (recvCell c k)) := by
  rw [nineOf_list, four, four]
  have assoc : ∀ P Q R : sProp 𝕄, iprop((P ∗ Q) ∗ R) = iprop(P ∗ Q ∗ R) := fun P Q R => BI.Entails.antisymm BI.sep_assoc BI.sep_assoc'
  simp only [assoc]

/-- What the launch gives device `c` for its own cells; -/
def G (c : Dev nD) : sProp 𝕄 :=
  iprop(nineOf c (fun g => roundState ER (rd m) g 0) ∗ nineOf c (fun g => atPos ER g 0 ∅ 0)
    ∗ nineOf c (fun g => reached ER g 0) ∗ nineOf c (fun g => dutyTok ER g 0 ()))

/-- and what it has after the invariants are made and the tokens dealt. -/
def G' (c : Dev nD) : sProp 𝕄 := iprop(∃ K, records m K ∗ barGhost c ∗ bigSep Finset.univ (fun k => chunkGhost c k))

omit [FloatOps F] in
theorem over_cells (Φ : GSem nD τ sig → sProp 𝕄) : bigSep xCells Φ = bigSep Finset.univ fun c : Dev nD => nineOf c Φ := by
  unfold xCells; rw [bigSep_map, bigSep_univ_prod]; rfl

omit [FloatOps F] in
theorem over_toks : bigSep xToks (fun x => (dutyTok ER x.1 x.2.1 x.2.2 : sProp 𝕄))
    = bigSep Finset.univ fun c : Dev nD => nineOf c (fun g => dutyTok ER g 0 ()) := by
  unfold xToks; rw [bigSep_map, bigSep_univ_prod]; rfl

theorem fund_exchange : BI.own (ER (initOf xCells xToks)) ⊢ (|==> bigSep Finset.univ (G m) : sProp 𝕄) := by
  iintro HX
  imod (Rounds.fund ER (rd m) xCells xToks) $$ HX with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G; simp only [bigSep_sep']
  isplitl [Hst]; · iexact Hst
  isplitl [Hat]; · iexact Hat
  isplitl [Hr] <;> iassumption

/-! ## The semaphores at launch -/

omit [FloatOps F] in
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0 ∗ semVal (sendCell c 3) 0
      ∗ semVal (recvCell c 0) 0 ∗ semVal (recvCell c 1) 0 ∗ semVal (recvCell c 2) 0 ∗ semVal (recvCell c 3) 0) :=
  Pipeline.ownSems0_eq_of_list c osem [0, 1, 2, 3, 4, 5, 6, 7] (by decide) (by decide)
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(unscopedSems0 c ∗ Pipeline.ownSems0 (Ix := Unit) (Name := ℕ) (U := UU) (Lvl := ℕ) (Val := Elt F) (τ := τ) osem c)
      = nineOf c (fun g => (semVal g 0 : sProp 𝕄)) := by
  rw [ownSems0_eq, unscopedSems0_eq, nineOf_list]

/-- Device `c`'s nine invariants made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(nineOf c (fun g => iprop(∃ κ : ℕ, cellInv ER (rd m) κ g)) ∗ nineOf c (fun g => atPos ER g 0 ∅ 0)
          ∗ nineOf c (fun g => reached ER g 0) ∗ nineOf c (fun g => dutyTok ER g 0 ())) := by
  unfold G
  iintro ⟨Hos, Hus, Hst, Hrest⟩
  ihave Hv := (Entails.of_eq (sems0_eq (F := F) c)) $$ [Hos Hus]
  · isplitl [Hus] <;> iassumption
  imod (show iprop(nineOf c (fun g => semVal g 0) ∗ nineOf c (fun g => roundState ER (rd m) g 0))
      ⊢ (|={Set.univ}=> nineOf c (fun g => iprop(∃ κ : ℕ, cellInv ER (rd m) κ g)) : sProp 𝕄) from by
        unfold nineOf
        rw [← bigSep_sep']
        exact (bigSep_mono fun j _ => (Rounds.body_intro ER (rd m) (kcell (c, j))).trans inv_alloc).trans (bigSep_fupd _ _)) $$ [Hv Hst] with Hinv
  · isplitl [Hv] <;> iassumption
  imodintro
  isplitl [Hinv] <;> iassumption

/-! ## The tokens dealt -/

/-- Device `c`'s positions and the tokens of the duties it performs. -/
def linear (c : Dev nD) : sProp 𝕄 := iprop(barGhost c ∗ bigSep Finset.univ (fun k => chunkGhost c k))

omit [FloatOps F] in
theorem deal :
    iprop((bigSep Finset.univ fun c : Dev nD => nineOf c (fun g => (atPos ER g 0 ∅ 0 : sProp 𝕄)))
        ∗ bigSep Finset.univ fun c : Dev nD => nineOf c (fun g => dutyTok ER g 0 ()))
      ⊢ bigSep Finset.univ fun c : Dev nD => (linear c : sProp 𝕄) := by
  unfold linear barGhost chunkGhost
  simp only [nineOf_eq, bigSep_sep']
  rw [bigSep_univ_equiv swap (fun c : Dev nD => (dutyTok ER (barCell c) 0 () : sProp 𝕄)),
    bigSep_univ_equiv swap (fun c : Dev nD => bigSep Finset.univ fun k => (dutyTok ER (recvCell c k) 0 () : sProp 𝕄))]
  iintro ⟨⟨HaB, HaS, HaR⟩, HtB, HtS, HtR⟩
  isplitl [HaB HtB]
  · isplitl [HaB]; · iexact HaB
    iexact HtB
  isplitl [HaS]; · iexact HaS
  isplitl [HaR]; · iexact HaR
  isplitl [HtS]; · iexact HtS
  iexact HtR

omit [FloatOps F] in
/-- What everybody may use goes to everybody. -/
theorem share_out {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop(nineOf c (fun g => iprop(∃ κ : ℕ, cellInv ER (rd m) κ g)) ∗ nineOf c (fun g => atPos ER g 0 ∅ 0)
          ∗ nineOf c (fun g => reached ER g 0) ∗ nineOf c (fun g => dutyTok ER g 0 ())) : sProp 𝕄)
      ⊢ bigSep Finset.univ (G' m) := by
  simp only [bigSep_sep']
  iintro ⟨HI, Hat, HR, Htok⟩
  ihave HI := (show (bigSep Finset.univ fun c : Dev nD => nineOf c (fun g => iprop(∃ κ : ℕ, cellInv ER (rd m) κ g)) : sProp 𝕄)
      ⊢ bigSep Finset.univ fun x : Dev nD × Fin 9 => iprop(∃ κ : ℕ, cellInv ER (rd m) κ (kcell x)) from
    Entails.of_eq (bigSep_univ_prod fun x : Dev nD × Fin 9 => iprop(∃ κ : ℕ, cellInv ER (rd m) κ (kcell x))).symm) $$ HI
  ihave HR := (show (bigSep Finset.univ fun c : Dev nD => nineOf c (fun g => reached ER g 0) : sProp 𝕄)
      ⊢ bigSep Finset.univ fun x : Dev nD × Fin 9 => reached ER (kcell x) 0 from
    Entails.of_eq (bigSep_univ_prod fun x : Dev nD × Fin 9 => (reached ER (kcell x) 0 : sProp 𝕄)).symm) $$ HR
  ihave HK := (BI.bigSep_exists_pi Finset.univ (fun (x : Dev nD × Fin 9) (κ : ℕ) => (cellInv ER (rd m) κ (kcell x) : sProp 𝕄))) $$ HI
  icases HK with ⟨%K, HI⟩
  ihave Hl := (deal (F := F)) $$ [Hat Htok]
  · isplitl [Hat] <;> iassumption
  iapply (share_out (R := records m K) (Φ := fun c => linear c) fun c => show iprop(records m K ∗ linear c) ⊢ G' m c from by
    unfold G' linear; iintro H; iexists K; iexact H)
  isplitl [HI HR]
  · unfold records; isplitl [HI] <;> iassumption
  · iexact Hl

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## What the others owe a device is its credit -/

theorem bar_ne_recv (c d : Dev nD) (k : Fin 4) : barCell c ≠ recvCell d k := fun h =>
  nomatch (congrArg Prod.snd h : (SemLoc.reg barS : SemLoc sig) = .dma (recvS k))

theorem recv_inj {c d : Dev nD} {k l : Fin 4} (h : recvCell c k = recvCell d l) : c = d ∧ k = l :=
  ⟨congrArg (fun g : GSem nD τ sig => g.1.1) h, by
    have h2 : (SemLoc.dma (recvS k) : SemLoc sig) = .dma (recvS l) := congrArg Prod.snd h
    have h3 : 7 + k.val = 7 + l.val := congrArg Fin.val (SemLoc.dma.inj h2)
    exact Fin.ext (by omega)⟩

theorem owed_bar (d c : Dev nD) : O₀ d (barCell c) () = if d = peer c then 1 else 0 := by
  have h0 : owe d 4 (barCell c) () = 0 := Nat.eq_zero_of_not_pos fun h => by
    obtain ⟨k, hk⟩ := owe_pos h; exact bar_ne_recv _ _ k hk
  unfold O₀
  rw [Pi.add_apply, Finsupp.add_apply, h0, Nat.zero_add, tallyAt_apply]
  refine if_congr ⟨fun h => ?_, fun h => ?_⟩ rfl rfl
  · have : c = peer d := congrArg (fun g : GSem nD τ sig => g.1.1) h.1
    rw [this, peer_peer]
  · rw [h, peer_peer]; exact ⟨rfl, rfl⟩

theorem owe_own (c : Dev nD) (k : Fin 4) : ∀ n ≤ 4, owe c n (recvCell (peer c) k) () = if 4 ≤ k.val + n then N else 0
  | 0, _ => by rw [if_neg (by have := k.isLt; omega)]; rfl
  | n + 1, hn => by
    rw [owe, Pi.add_apply, Finsupp.add_apply, owe_own c k n (by omega), tallyAt_apply]
    by_cases h : k.val = 3 - n
    · rw [if_neg (by omega), if_pos ⟨by rw [show k = ⟨3 - n, three_sub_lt n⟩ from Fin.ext h], rfl⟩, if_pos (by omega), Nat.zero_add]
    · rw [if_neg (c := _ ∧ _) (fun e => h (congrArg Fin.val (recv_inj e.1).2)), Nat.add_zero]
      exact if_congr (by omega) rfl rfl

theorem owed_recv (d c : Dev nD) (k : Fin 4) : O₀ d (recvCell c k) () = if d = peer c then N else 0 := by
  have h0 : tallyAt (barCell (peer d)) () 1 (recvCell c k) () = 0 := Nat.eq_zero_of_not_pos fun h =>
    bar_ne_recv _ _ k (tallyAt_pos h).symm
  unfold O₀
  rw [Pi.add_apply, Finsupp.add_apply, h0, Nat.add_zero]
  by_cases h : d = peer c
  · subst h
    have := owe_own (peer c) k 4 le_rfl
    rw [peer_peer] at this
    rw [this, if_pos (by omega), if_pos rfl]
  · rw [if_neg h]
    refine Nat.eq_zero_of_not_pos fun hp => h ?_
    obtain ⟨l, hl⟩ := owe_pos hp
    rw [(recv_inj hl).1, peer_peer]

/-- If only the peer owes a cell, and `n`, that is the cell's credit. -/
theorem launch_cell (c : Dev nD) (sm : SemLoc sig) (n : ℕ) (h : ∀ d, O₀ d ((c : Thread nD τ), sm) () = if d = peer c then n else 0) :
    tallyOn ((c : Thread nD τ), sm) (launchCredit (Pipeline.owing O₀) 0 ((c : Thread nD τ), sm))
      = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d,
    Finset.sum_ite_eq' Finset.univ (peer c) fun _ => n, if_pos (Finset.mem_univ _)]

def recvSem (k : Fin 4) : SemLoc sig := .dma (recvS k)
theorem recvSem_injective : Function.Injective recvSem := by decide

omit [FloatOps F] in
theorem creds (c : Dev nD) :
    (Pipeline.launchCred O₀ c : sProp 𝕄)
      ⊢ iprop(cred (tallyAt (barCell c) () 1) ∗ bigSep Finset.univ (fun k => (cred (tallyAt (recvCell c k) () N) : sProp 𝕄))) := by
  unfold Pipeline.launchCred
  rw [bigSep_univ_at _ (SemLoc.reg barS), launch_cell c _ 1 fun d => owed_bar d c]
  refine sep_mono_right ?_
  have hs : Finset.univ.map ⟨recvSem, recvSem_injective⟩ ⊆ (Finset.univ : Finset (SemLoc sig)).erase (.reg barS) := by decide
  refine BIBase.Entails.trans (BI.bigSep_subset hs) ?_
  rw [bigSep_map]
  exact bigSep_mono fun k _ => Entails.of_eq (congrArg cred (launch_cell c (recvSem k) N fun d => owed_recv d c k))

/-! ## Into the kernel and out of it -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨HB, HR⟩
  imodintro
  unfold start G'
  isplitl
  · isplitl [HG]; · iexact HG
    isplitl [HB]; · iexact HB
    isplitl [HR] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq]
  unfold Φ₁
  iintro ⟨Hs, Hr, Hz⟩
  ihave Hz := (Entails.of_eq ((nineOf_eq (F := F) c fun g => semVal g 0).symm.trans (sems0_eq c).symm)) $$ Hz
  icases Hz with ⟨HB, HO⟩
  isplitl [HB]; · iexact HB
  isplitl [HO]; · iexact HO
  isplitl [Hs] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

theorem run_pipeline : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operands are unchanged, -/
theorem final_a (c : Dev nD) : finalA m c (0 : Fin 3) = m ((c : Thread nD τ).loc main_arg0) := (dats m 0 c).arrAt_in (0 : Fin 3) rfl _
theorem final_b (c : Dev nD) : finalA m c (1 : Fin 3) = m ((c : Thread nD τ).loc main_arg1) := (dats m 0 c).arrAt_in (1 : Fin 3) rfl _
/-- and the result is `outAt`. -/
theorem final_out (c : Dev nD) : finalA m c (2 : Fin 3) = outAt m c := by
  refine (dats m 0 c).arrAt_eq_of_covers (2 : Fin 3) (outAt m c) (by decide +kernel) fun t _ y => ?_
  rw [fin_N t]
  blk_simp
  refine congrArg (outAt m c) (funext fun a => Fin.ext ?_)
  match a with
  | ⟨0, _⟩ => show (y 0).val = 0 * 512 + 1 * (y 0).val; omega
  | ⟨1, _⟩ => show (y 1).val = 0 * 512 + 1 * (y 1).val; omega

/-- At any interpretation of the floating-point numbers, from any memory: the program ends on every device, with `outAt` in
    the result array, the operands as they were and every semaphore at zero. -/
theorem run_main : θ_run defs (onTc (τ := τ) (main (F := F))) ⟨m, fun _ => 0, ρ⟩
    (fun r => (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m c), (h.1 c (0 : Fin 3)).trans (final_a m c),
    (h.1 c (1 : Fin 3)).trans (final_b m c)⟩, h.2⟩) (run_pipeline m ρ)

/-- The same without the result. -/
theorem run_frame : θ_run defs (onTc (τ := τ) (main (F := F))) ⟨m, fun _ => 0, ρ⟩
    (fun r => (∀ c : Dev nD, r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => (h.1 c).2, h.2⟩) (run_main m ρ)

end Cert.Exchange
-- ==== Proof.Products.lean ====
/-
# What a device computes, over the real numbers

Over the extended reals the roundings are the identity. Entry `(i, j)` of device `c`'s result is then the product of row
`i` of its block of `A` and column `j` of its block of `B`, plus the same product at its peer.
-/
module

public import proofs.«01_k».proof.Proof.Chunks
public import Idealize.ShloMosaic.Lib.Pointwise

@[expose] public section

noncomputable section

namespace Cert.Exchange

open Cert.KernelIdeal Cert.KernelIdeal.Gen

open Idealize.ShloMosaic
open Idealize.ShloMosaic.TcCoe

variable (m : (ℓ : Loc nD τ sig) → Buf (Elt Ideal) ℓ)

/-- Device `c`'s blocks of `A` and of `B` in its memory. -/
abbrev aOf (c : Dev nD) : S512x256.Idx → Elt Ideal .f32 := m ((c : Thread nD τ).loc main_arg0)
abbrev bOf (c : Dev nD) : S256x512.Idx → Elt Ideal .f32 := m ((c : Thread nD τ).loc main_arg1)

/-- The staged blocks are these. -/
theorem astg_eq (c : Dev nD) : astg m c = aOf m c := funext fun i =>
  congrArg (aOf m c) (funext fun a => Fin.ext (by
    match a with
    | ⟨0, _⟩ => show 0 * 512 + 1 * (i 0).val = (i 0).val; omega
    | ⟨1, _⟩ => show 0 * 256 + 1 * (i 1).val = (i 1).val; omega))
theorem bstg_eq (c : Dev nD) : bstg m c = bOf m c := funext fun i =>
  congrArg (bOf m c) (funext fun a => Fin.ext (by
    match a with
    | ⟨0, _⟩ => show 0 * 256 + 1 * (i 0).val = (i 0).val; omega
    | ⟨1, _⟩ => show 0 * 512 + 1 * (i 1).val = (i 1).val; omega))

/-- Entry `(i, j)` of the product of device `c`'s blocks. -/
def dotAt (c : Dev nD) (i j : Fin 512) : EReal := ∑ t : Fin 256, aOf m c (ix2 i t) * bOf m c (ix2 t j)

theorem row_lt (k : Fin 4) (r : Fin 128) : 128 * k.val + r.val < 512 := by omega

theorem aRows_apply (c : Dev nD) (k : Fin 4) (r : Fin 128) (t : Fin 256) :
    aRows m c k (ix2 r t) = aOf m c (ix2 ⟨128 * k.val + r.val, row_lt k r⟩ t) := by
  unfold aRows
  rw [astg_eq]
  refine congrArg (aOf m c) (funext fun a => Fin.ext ?_)
  match a with
  | ⟨0, _⟩ => show 128 * k.val + 1 * r.val = 128 * k.val + r.val; omega
  | ⟨1, _⟩ => show 0 + 1 * t.val = t.val; omega

/-- The product of rows `k`, kept; -/
theorem part_apply (c : Dev nD) (k : Fin 4) (r : Fin 128) (j : Fin 512) :
    part m c k (ix2 r j) = dotAt m c ⟨128 * k.val + r.val, row_lt k r⟩ j := by
  unfold part dotAt
  rw [bstg_eq]
  pointwise [k0_pay4, k0_pay1]
  exact Finset.sum_congr rfl fun t _ => by rw [aRows_apply]

/-- sent: its rounded copy is the same; -/
theorem sent_apply (c : Dev nD) (k : Fin 4) (r : Fin 128) (j : Fin 512) :
    sent m c k (ix3 0 r j) = dotAt m c ⟨128 * k.val + r.val, row_lt k r⟩ j := by
  rw [← part_apply]
  unfold sent part
  pointwise [k0_pay5, k0_pay4]

/-- and with the peer's. -/
theorem total_apply (c : Dev nD) (k : Fin 4) (r : Fin 128) (j : Fin 512) :
    total m c k (ix2 r j) = dotAt m c ⟨128 * k.val + r.val, row_lt k r⟩ j + dotAt m (peer c) ⟨128 * k.val + r.val, row_lt k r⟩ j := by
  rw [← part_apply, ← sent_apply m (peer c)]
  unfold total
  pointwise [k0_pay10]

theorem outAt_apply (c : Dev nD) (i j : Fin 512) : outAt m c (ix2 i j) = dotAt m c i j + dotAt m (peer c) i j := by
  have h : outAt m c (ix2 i j) = total m c ⟨i.val / 128, by omega⟩ (ix2 ⟨i.val % 128, by omega⟩ j) := by
    unfold outAt
    refine congrArg _ (funext fun a => ?_)
    match a with
    | ⟨0, _⟩ => rfl
    | ⟨1, _⟩ => rfl
  rw [h, total_apply]
  have e : ∀ h, (⟨128 * (i.val / 128) + i.val % 128, h⟩ : Fin 512) = i := fun _ => Fin.ext (Nat.div_add_mod _ _)
  simp only [e]

end Cert.Exchange
-- ==== Proof.Equation.lean ====
/-
# The result is the device's block of the product

The mesh is 2 × 2; device `c` stands in row `c / 2` and column `c % 2`. It holds the block of `A` of its row and column
and the block of `B` of its column, and its result is the row block `c / 2` of the whole product. A sum over the 512
positions of the contracted axis is the sum over the first 256 plus the sum over the last 256: of these one is the
device's own product and the other its peer's.
-/
module

public import proofs.«01_k».proof.Proof.Products
public import proofs.«01_k».proof.Proof.Gen.ReferenceIdeal.Run
public import Idealize.ShloMosaic.Lib.Layout

@[expose] public section

noncomputable section

namespace Cert.Exchange

open Cert.KernelIdeal Cert.KernelIdeal.Gen

open Idealize.ShloMosaic
open Idealize.ShloMosaic.TcCoe

/-- The whole `A` and `B`. -/
abbrev WholeA := (⟨2, ![1024, 512]⟩ : Shape).Idx → Elt Ideal .f32
abbrev WholeB := (⟨2, ![512, 512]⟩ : Shape).Idx → Elt Ideal .f32

/-- The reference's result. -/
def prod (A : WholeA) (B : WholeB) : WholeA :=
  Host.dotGeneral (F := Ideal) (φ₁ := .f32) (φ₂ := .f32) Cert.ReferenceIdeal.dot_S1024x512_S512x512_S1024x512_1_0_0_1_n_n none A B

theorem prod_apply (A : WholeA) (B : WholeB) (i : Fin 1024) (j : Fin 512) :
    prod A B (ix2 i j) = ∑ s : Fin 512, A (ix2 i s) * B (ix2 s j) := by
  unfold prod
  pointwise

/-! ## Where a block's entries stand -/

theorem high_lt (c : Dev nD) (i : Fin 512) : 512 * (c.val / 2) + i.val < 1024 := by
  have : c.val < 4 := c.isLt
  omega
theorem mid_lt (c : Dev nD) (t : Fin 256) : 256 * (c.val % 2) + t.val < 512 := by omega

/-- Row `i` of device `c`'s blocks of `A` and of the result in the whole array, -/
def high (c : Dev nD) (i : Fin 512) : Fin 1024 := ⟨512 * (c.val / 2) + i.val, high_lt c i⟩
/-- and position `t` of its part of the contracted axis. -/
def mid (c : Dev nD) (t : Fin 256) : Fin 512 := ⟨256 * (c.val % 2) + t.val, mid_lt c t⟩

/-- Device `c`'s blocks of the two operands and of the result, as the claim cuts them. -/
abbrev blockA (c : Dev nD) (A : WholeA) : S512x256.Idx → Elt Ideal .f32 :=
  Layout.blockN ⟨2, ![512, 256]⟩ ⟨2, ![1024, 512]⟩ (Layout.meshBlock [2, 2] ![[0], [1]] c) A
abbrev blockB (c : Dev nD) (B : WholeB) : S256x512.Idx → Elt Ideal .f32 :=
  Layout.blockN ⟨2, ![256, 512]⟩ ⟨2, ![512, 512]⟩ (Layout.meshBlock [2, 2] ![[1], []] c) B
abbrev blockC (c : Dev nD) (C : WholeA) : S512x512.Idx → Elt Ideal .f32 :=
  Layout.blockN ⟨2, ![512, 512]⟩ ⟨2, ![1024, 512]⟩ (Layout.meshBlock [2, 2] ![[0], []] c) C

/-- The number of device `c`'s block along an axis cut by mesh rows, by mesh columns, or not at all. -/
theorem lin_row (c : Dev nD) : Layout.meshLin [2, 2] c.val [0] = c.val / 2 := by revert c; decide
theorem lin_col (c : Dev nD) : Layout.meshLin [2, 2] c.val [1] = c.val % 2 := by revert c; decide

theorem blockA_apply (c : Dev nD) (A : WholeA) (i : Fin 512) (t : Fin 256) : blockA c A (ix2 i t) = A (ix2 (high c i) (mid c t)) := by
  refine congrArg A (funext fun a => Fin.ext ?_)
  match a with
  | ⟨0, _⟩ => show Layout.meshLin [2, 2] c.val [0] * 512 + i.val = 512 * (c.val / 2) + i.val; rw [lin_row]; omega
  | ⟨1, _⟩ => show Layout.meshLin [2, 2] c.val [1] * 256 + t.val = 256 * (c.val % 2) + t.val; rw [lin_col]; omega

theorem blockB_apply (c : Dev nD) (B : WholeB) (t : Fin 256) (j : Fin 512) : blockB c B (ix2 t j) = B (ix2 (mid c t) j) := by
  refine congrArg B (funext fun a => Fin.ext ?_)
  match a with
  | ⟨0, _⟩ => show Layout.meshLin [2, 2] c.val [1] * 256 + t.val = 256 * (c.val % 2) + t.val; rw [lin_col]; omega
  | ⟨1, _⟩ => show 0 * 512 + j.val = j.val; omega

theorem blockC_apply (c : Dev nD) (C : WholeA) (i j : Fin 512) : blockC c C (ix2 i j) = C (ix2 (high c i) j) := by
  refine congrArg C (funext fun a => Fin.ext ?_)
  match a with
  | ⟨0, _⟩ => show Layout.meshLin [2, 2] c.val [0] * 512 + i.val = 512 * (c.val / 2) + i.val; rw [lin_row]; omega
  | ⟨1, _⟩ => show 0 * 512 + j.val = j.val; omega

/-! ## The two halves of the contracted axis -/

/-- A device and its peer hold the same rows -/
theorem high_peer (c : Dev nD) (i : Fin 512) : high (peer c) i = high c i :=
  have h : (peer c).val / 2 = c.val / 2 := by revert c; decide
  Fin.ext (congrArg (fun n => 512 * n + i.val) h)

/-- and the two halves of the contracted axis. -/
theorem sum_halves (c : Dev nD) (f : Fin 512 → EReal) :
    ∑ s : Fin 512, f s = (∑ t : Fin 256, f (mid c t)) + ∑ t : Fin 256, f (mid (peer c) t) := by
  rw [Fin.sum_univ_two_halves 256 256 rfl f]
  have low : ∀ d : Dev nD, d.val % 2 = 0 → ∀ t : Fin 256, mid d t = ⟨t.val, by omega⟩ := fun d h t => Fin.ext (by
    show 256 * (d.val % 2) + t.val = t.val; omega)
  have top : ∀ d : Dev nD, d.val % 2 = 1 → ∀ t : Fin 256, mid d t = ⟨256 + t.val, by omega⟩ := fun d h t => Fin.ext (by
    show 256 * (d.val % 2) + t.val = 256 + t.val; omega)
  have hp : (peer c).val % 2 = 1 - c.val % 2 := by revert c; decide
  rcases Nat.mod_two_eq_zero_or_one c.val with h | h
  · simp only [low c h, top (peer c) (by omega)]
  · simp only [top c h, low (peer c) (by omega)]
    exact add_comm _ _

/-! ## The equation -/

variable (m : (ℓ : Loc nD τ sig) → Buf (Elt Ideal) ℓ)

theorem dotAt_eq (A : WholeA) (B : WholeB) (c : Dev nD) (ha : aOf m c = blockA c A) (hb : bOf m c = blockB c B) (i j : Fin 512) :
    dotAt m c i j = ∑ t : Fin 256, A (ix2 (high c i) (mid c t)) * B (ix2 (mid c t) j) := by
  unfold dotAt
  rw [ha, hb]
  exact Finset.sum_congr rfl fun t _ => by rw [blockA_apply, blockB_apply]

/-- If every device holds its blocks of `A` and `B`, every device's result is its block of their product. -/
theorem outAt_eq (A : WholeA) (B : WholeB) (h : ∀ c : Dev nD, aOf m c = blockA c A ∧ bOf m c = blockB c B) (c : Dev nD) :
    outAt m c = blockC c (prod A B) := by
  funext (y : S512x512.Idx)
  obtain ⟨i, j, rfl⟩ : ∃ i j : Fin 512, y = ix2 i j := ⟨y 0, y 1, eq_ix2 y⟩
  rw [outAt_apply, dotAt_eq m A B c (h c).1 (h c).2, dotAt_eq m A B (peer c) (h (peer c)).1 (h (peer c)).2, blockC_apply,
    prod_apply, sum_halves c, high_peer]

end Cert.Exchange
-- ==== Proof.lean ====
/-
# The claims

The program and its idealisation have the same text, so one run, proved at any interpretation of the floating-point
numbers, gives both frames. The value of the run over the extended reals is the device's block of the reference's result.
-/
module

public import proofs.«01_k».proof.Defs
public import proofs.«01_k».proof.Proof.Gen.Kernel
public import proofs.«01_k».proof.Proof.Launch
public import proofs.«01_k».proof.Proof.Equation
public import proofs.«01_k».proof.Proof.Gen.ReferenceIdeal.Run

@[expose] public section

noncomputable section

namespace Cert.Proof

open Idealize.ShloMosaic Idealize.SL.Sem

/-- The idealised kernel ends without fault, with its arguments unchanged and every semaphore at zero. -/
theorem frame_ideal : Cert.quiescent_KernelIdeal := fun m ρ _ => Exchange.run_frame m ρ

/-- The two programs call the same body. -/
theorem bodies : Cert.Kernel.defs₀ (F := Bits) = Cert.KernelIdeal.defs₀ (F := Bits) :=
  congrArg Defs.onTc (funext fun l => match l with
    | 0 => rfl)

/-- So they have the same table of procedures. -/
theorem tables : Cert.Kernel.defs (F := Bits) = Cert.KernelIdeal.defs (F := Bits) :=
  congrArg (Pipeline.defs Cert.KernelIdeal.pcfgs) bodies

/-- The kernel ends without fault, with its arguments unchanged and every semaphore at zero. -/
theorem frame_kernel : Cert.quiescent_Kernel := fun m ρ _ => by
  rw [tables]
  exact Exchange.run_frame (F := Bits) m ρ

/-- The reference runs on the host alone and has no semaphore. -/
theorem frame_reference : Cert.quiescent_ReferenceIdeal := fun m ρ _ =>
  (θ_run Cert.ReferenceIdeal.defs _ _).mono (fun _ h => ⟨fun c => (h c).2, funext fun g => by
    rcases g with ⟨_, s | s⟩ <;> exact s.elim0⟩) (Cert.ReferenceIdeal.Value.run m ρ)

/-- The reference's result is the product of its arguments, and every device's is its block of it. -/
theorem algebraic : Cert.algebraic_KernelIdeal_ReferenceIdeal := fun m ρ m' ρ' _ h =>
  ⟨Exchange.prod (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ hr c => ⟨(hr.1 c).1.trans (Exchange.outAt_eq m _ _ h c), (hr.1 c).2⟩) (Exchange.run_main m ρ),
    (θ_run Cert.ReferenceIdeal.defs _ _).mono (fun _ hr => hr 0) (Cert.ReferenceIdeal.Value.run m' ρ')⟩

/-- All the claims together. -/
theorem claim : Cert.Claim := ⟨Cert.Kernel.Gen.facts, Cert.KernelIdeal.Gen.facts, Cert.ReferenceIdeal.Gen.facts,
  frame_kernel, frame_ideal, frame_reference, trivial, algebraic⟩

end Cert.Proof

end
